-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![512, 1]⟩ ⟨2, ![4096, 1]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 256, 512]⟩ ⟨3, ![32, 256, 512]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![4096, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x32 : Shape := ⟨2, ![256, 32]⟩
abbrev S512x1 : Shape := ⟨2, ![512, 1]⟩
abbrev S4x256x512 : Shape := ⟨3, ![4, 256, 512]⟩
abbrev S512x512 : Shape := ⟨2, ![512, 512]⟩
abbrev S8x4x256x512 : Shape := ⟨4, ![8, 4, 256, 512]⟩
abbrev S8x1x32 : Shape := ⟨3, ![8, 1, 32]⟩
abbrev S16 : Shape := ⟨1, ![16]⟩
abbrev S7 : Shape := ⟨1, ![7]⟩
abbrev S512x32 : Shape := ⟨2, ![512, 32]⟩
abbrev S32 : Shape := ⟨1, ![32]⟩
abbrev S1x32 : Shape := ⟨2, ![1, 32]⟩
abbrev S1x1x32 : Shape := ⟨3, ![1, 1, 32]⟩
abbrev S1x4x256x512 : Shape := ⟨4, ![1, 4, 256, 512]⟩
abbrev S_ : Shape := ⟨0, ![]⟩
abbrev S1 : Shape := ⟨1, ![1]⟩
abbrev S1x1x256x512 : Shape := ⟨4, ![1, 1, 256, 512]⟩
abbrev S1x256x512 : Shape := ⟨3, ![1, 256, 512]⟩
abbrev S512 : Shape := ⟨1, ![512]⟩
abbrev S8x1 : Shape := ⟨2, ![8, 1]⟩
abbrev S8x32 : Shape := ⟨2, ![8, 32]⟩
abbrev S256x512 : Shape := ⟨2, ![256, 512]⟩

abbrev nBuf : Space → Nat
  | .hbm => 5
  | .vmem => 6
  | .smem => 0
  | _ => 0

abbrev bufTy : (tb : Table) → Fin (tcTables nBuf tb) → BufTy
  | .hbm, ⟨0, _⟩ => ⟨S512x256, .f32⟩
  | .hbm, ⟨1, _⟩ => ⟨S256x32, .f32⟩
  | .hbm, ⟨2, _⟩ => ⟨S512x1, .i32⟩
  | .hbm, ⟨3, _⟩ => ⟨S4x256x512, .f32⟩
  | .hbm, ⟨4, _⟩ => ⟨S512x512, .f32⟩
  | .local _ .vmem, ⟨0, _⟩ => ⟨S512x256, .f32⟩
  | .local _ .vmem, ⟨1, _⟩ => ⟨S512x1, .i32⟩
  | .local _ .vmem, ⟨2, _⟩ => ⟨S4x256x512, .f32⟩
  | .local _ .vmem, ⟨3, _⟩ => ⟨S512x512, .f32⟩
  | .local _ .vmem, ⟨4, _⟩ => ⟨S8x4x256x512, .bf16⟩
  | .local _ .vmem, ⟨5, _⟩ => ⟨S8x1x32, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  (ofTc nBuf bufTy 1 82 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v17 : Index := Scalar.indexCast v2
  let c0_6 : Index := 0#32
  let c0_7 : Index := 0#32
  ![v17.toNat, 0, 0]
def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_15 : BitVec 32 := 1#32
  let v28 : BitVec 32 := Scalar.addi v2 c1_i32_15
  let c8_i32_16 : BitVec 32 := 8#32
  let v29 : BitVec 32 := Scalar.remsi v28 c8_i32_16
  let c1_i32_18 : BitVec 32 := 1#32
  let v30 : BitVec 32 := Scalar.muli v29 c1_i32_18
  let v31 : BitVec 32 := Scalar.addi c0_i32 v30
  v31.toNat
def k0_dev2 (d0 : Dev nD) : Nat :=
  let c0_i32_22 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v32 : BitVec 32 := Scalar.addi v2 c2_i32
  let c8_i32_19 : BitVec 32 := 8#32
  let v33 : BitVec 32 := Scalar.remsi v32 c8_i32_19
  let c1_i32_21 : BitVec 32 := 1#32
  let v34 : BitVec 32 := Scalar.muli v33 c1_i32_21
  let v35 : BitVec 32 := Scalar.addi c0_i32_22 v34
  v35.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v36 : BitVec 32 := Scalar.addi v2 c3_i32
  let c8_i32_23 : BitVec 32 := 8#32
  let v37 : BitVec 32 := Scalar.remsi v36 c8_i32_23
  let c1_i32_25 : BitVec 32 := 1#32
  let v38 : BitVec 32 := Scalar.muli v37 c1_i32_25
  let v39 : BitVec 32 := Scalar.addi c0_i32_26 v38
  v39.toNat
def k0_dev4 (d0 : Dev nD) : Nat :=
  let c0_i32_30 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v40 : BitVec 32 := Scalar.addi v2 c4_i32
  let c8_i32_27 : BitVec 32 := 8#32
  let v41 : BitVec 32 := Scalar.remsi v40 c8_i32_27
  let c1_i32_29 : BitVec 32 := 1#32
  let v42 : BitVec 32 := Scalar.muli v41 c1_i32_29
  let v43 : BitVec 32 := Scalar.addi c0_i32_30 v42
  v43.toNat
def k0_dev5 (d0 : Dev nD) : Nat :=
  let c0_i32_34 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v44 : BitVec 32 := Scalar.addi v2 c5_i32
  let c8_i32_31 : BitVec 32 := 8#32
  let v45 : BitVec 32 := Scalar.remsi v44 c8_i32_31
  let c1_i32_33 : BitVec 32 := 1#32
  let v46 : BitVec 32 := Scalar.muli v45 c1_i32_33
  let v47 : BitVec 32 := Scalar.addi c0_i32_34 v46
  v47.toNat
def k0_dev6 (d0 : Dev nD) : Nat :=
  let c0_i32_38 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v48 : BitVec 32 := Scalar.addi v2 c6_i32
  let c8_i32_35 : BitVec 32 := 8#32
  let v49 : BitVec 32 := Scalar.remsi v48 c8_i32_35
  let c1_i32_37 : BitVec 32 := 1#32
  let v50 : BitVec 32 := Scalar.muli v49 c1_i32_37
  let v51 : BitVec 32 := Scalar.addi c0_i32_38 v50
  v51.toNat
def k0_dev7 (d0 : Dev nD) : Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v52 : BitVec 32 := Scalar.addi v2 c7_i32
  let c8_i32_39 : BitVec 32 := 8#32
  let v53 : BitVec 32 := Scalar.remsi v52 c8_i32_39
  let c1_i32_41 : BitVec 32 := 1#32
  let v54 : BitVec 32 := Scalar.muli v53 c1_i32_41
  let v55 : BitVec 32 := Scalar.addi c0_i32_42 v54
  v55.toNat
def k0_dev8 (d0 : Dev nD) : Nat :=
  let c0_i32_49 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_48 : BitVec 32 := 1#32
  let v56 : BitVec 32 := Scalar.muli v4 c1_i32_48
  let v57 : BitVec 32 := Scalar.addi c0_i32_49 v56
  v57.toNat
def k0_dev9 (d0 : Dev nD) : Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_60 : BitVec 32 := 1#32
  let v66 : BitVec 32 := Scalar.muli v7 c1_i32_60
  let v67 : BitVec 32 := Scalar.addi c0_i32_61 v66
  v67.toNat
def k0_dev10 (d0 : Dev nD) : Nat :=
  let c0_i32_73 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_72 : BitVec 32 := 1#32
  let v76 : BitVec 32 := Scalar.muli v4 c1_i32_72
  let v77 : BitVec 32 := Scalar.addi c0_i32_73 v76
  v77.toNat
def k0_dev11 (d0 : Dev nD) : Nat :=
  let c0_i32_85 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_84 : BitVec 32 := 1#32
  let v86 : BitVec 32 := Scalar.muli v7 c1_i32_84
  let v87 : BitVec 32 := Scalar.addi c0_i32_85 v86
  v87.toNat
def k0_dev12 (d0 : Dev nD) : Nat :=
  let c0_i32_97 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_96 : BitVec 32 := 1#32
  let v96 : BitVec 32 := Scalar.muli v4 c1_i32_96
  let v97 : BitVec 32 := Scalar.addi c0_i32_97 v96
  v97.toNat
def k0_dev13 (d0 : Dev nD) : Nat :=
  let c0_i32_109 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_108 : BitVec 32 := 1#32
  let v106 : BitVec 32 := Scalar.muli v7 c1_i32_108
  let v107 : BitVec 32 := Scalar.addi c0_i32_109 v106
  v107.toNat
def k0_dev14 (d0 : Dev nD) : Nat :=
  let c0_i32_121 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_120 : BitVec 32 := 1#32
  let v116 : BitVec 32 := Scalar.muli v4 c1_i32_120
  let v117 : BitVec 32 := Scalar.addi c0_i32_121 v116
  v117.toNat
def k0_dev15 (d0 : Dev nD) : Nat :=
  let c0_i32_133 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_132 : BitVec 32 := 1#32
  let v126 : BitVec 32 := Scalar.muli v7 c1_i32_132
  let v127 : BitVec 32 := Scalar.addi c0_i32_133 v126
  v127.toNat
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_146 : BitVec 32 := 0#32
  let c0_i32_147 : BitVec 32 := 0#32
  ![v2.toNat, 0, 0]
def k0_dev16 (d0 : Dev nD) : Nat :=
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_140 : BitVec 32 := 1#32
  let v136 : BitVec 32 := Scalar.addi v2 c1_i32_140
  let c8_i32_141 : BitVec 32 := 8#32
  let v137 : BitVec 32 := Scalar.remsi v136 c8_i32_141
  let c1_i32_144 : BitVec 32 := 1#32
  let v138 : BitVec 32 := Scalar.muli v137 c1_i32_144
  let v139 : BitVec 32 := Scalar.addi c0_i32_145 v138
  v139.toNat
def k0_dev17 (d0 : Dev nD) : Nat :=
  let c0_i32_155 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_150 : BitVec 32 := 2#32
  let v148 : BitVec 32 := Scalar.addi v2 c2_i32_150
  let c8_i32_151 : BitVec 32 := 8#32
  let v149 : BitVec 32 := Scalar.remsi v148 c8_i32_151
  let c1_i32_154 : BitVec 32 := 1#32
  let v150 : BitVec 32 := Scalar.muli v149 c1_i32_154
  let v151 : BitVec 32 := Scalar.addi c0_i32_155 v150
  v151.toNat
def k0_dev18 (d0 : Dev nD) : Nat :=
  let c0_i32_165 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_160 : BitVec 32 := 3#32
  let v160 : BitVec 32 := Scalar.addi v2 c3_i32_160
  let c8_i32_161 : BitVec 32 := 8#32
  let v161 : BitVec 32 := Scalar.remsi v160 c8_i32_161
  let c1_i32_164 : BitVec 32 := 1#32
  let v162 : BitVec 32 := Scalar.muli v161 c1_i32_164
  let v163 : BitVec 32 := Scalar.addi c0_i32_165 v162
  v163.toNat
def k0_dev19 (d0 : Dev nD) : Nat :=
  let c0_i32_175 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_170 : BitVec 32 := 4#32
  let v172 : BitVec 32 := Scalar.addi v2 c4_i32_170
  let c8_i32_171 : BitVec 32 := 8#32
  let v173 : BitVec 32 := Scalar.remsi v172 c8_i32_171
  let c1_i32_174 : BitVec 32 := 1#32
  let v174 : BitVec 32 := Scalar.muli v173 c1_i32_174
  let v175 : BitVec 32 := Scalar.addi c0_i32_175 v174
  v175.toNat
def k0_dev20 (d0 : Dev nD) : Nat :=
  let c0_i32_185 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_180 : BitVec 32 := 5#32
  let v184 : BitVec 32 := Scalar.addi v2 c5_i32_180
  let c8_i32_181 : BitVec 32 := 8#32
  let v185 : BitVec 32 := Scalar.remsi v184 c8_i32_181
  let c1_i32_184 : BitVec 32 := 1#32
  let v186 : BitVec 32 := Scalar.muli v185 c1_i32_184
  let v187 : BitVec 32 := Scalar.addi c0_i32_185 v186
  v187.toNat
def k0_dev21 (d0 : Dev nD) : Nat :=
  let c0_i32_195 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_190 : BitVec 32 := 6#32
  let v196 : BitVec 32 := Scalar.addi v2 c6_i32_190
  let c8_i32_191 : BitVec 32 := 8#32
  let v197 : BitVec 32 := Scalar.remsi v196 c8_i32_191
  let c1_i32_194 : BitVec 32 := 1#32
  let v198 : BitVec 32 := Scalar.muli v197 c1_i32_194
  let v199 : BitVec 32 := Scalar.addi c0_i32_195 v198
  v199.toNat
def k0_dev22 (d0 : Dev nD) : Nat :=
  let c0_i32_205 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_200 : BitVec 32 := 7#32
  let v208 : BitVec 32 := Scalar.addi v2 c7_i32_200
  let c8_i32_201 : BitVec 32 := 8#32
  let v209 : BitVec 32 := Scalar.remsi v208 c8_i32_201
  let c1_i32_204 : BitVec 32 := 1#32
  let v210 : BitVec 32 := Scalar.muli v209 c1_i32_204
  let v211 : BitVec 32 := Scalar.addi c0_i32_205 v210
  v211.toNat
def k0_dev23 (d0 : Dev nD) : Nat :=
  let c0_i32_387 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_386 : BitVec 32 := 1#32
  let v426 : BitVec 32 := Scalar.muli v4 c1_i32_386
  let v427 : BitVec 32 := Scalar.addi c0_i32_387 v426
  v427.toNat
def k0_dev24 (d0 : Dev nD) : Nat :=
  let c0_i32_422 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_421 : BitVec 32 := 1#32
  let v450 : BitVec 32 := Scalar.muli v7 c1_i32_421
  let v451 : BitVec 32 := Scalar.addi c0_i32_422 v450
  v451.toNat
def k0_dev25 (d0 : Dev nD) : Nat :=
  let c0_i32_457 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_456 : BitVec 32 := 1#32
  let v474 : BitVec 32 := Scalar.muli v4 c1_i32_456
  let v475 : BitVec 32 := Scalar.addi c0_i32_457 v474
  v475.toNat
def k0_dev26 (d0 : Dev nD) : Nat :=
  let c0_i32_492 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_491 : BitVec 32 := 1#32
  let v498 : BitVec 32 := Scalar.muli v7 c1_i32_491
  let v499 : BitVec 32 := Scalar.addi c0_i32_492 v498
  v499.toNat
def k0_dev27 (d0 : Dev nD) : Nat :=
  let c0_i32_527 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_526 : BitVec 32 := 1#32
  let v522 : BitVec 32 := Scalar.muli v4 c1_i32_526
  let v523 : BitVec 32 := Scalar.addi c0_i32_527 v522
  v523.toNat
def k0_dev28 (d0 : Dev nD) : Nat :=
  let c0_i32_562 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_561 : BitVec 32 := 1#32
  let v546 : BitVec 32 := Scalar.muli v7 c1_i32_561
  let v547 : BitVec 32 := Scalar.addi c0_i32_562 v546
  v547.toNat
def k0_dev29 (d0 : Dev nD) : Nat :=
  let c0_i32_597 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_596 : BitVec 32 := 1#32
  let v570 : BitVec 32 := Scalar.muli v4 c1_i32_596
  let v571 : BitVec 32 := Scalar.addi c0_i32_597 v570
  v571.toNat
def k0_dev30 (d0 : Dev nD) : Nat :=
  let c0_i32_632 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_631 : BitVec 32 := 1#32
  let v594 : BitVec 32 := Scalar.muli v7 c1_i32_631
  let v595 : BitVec 32 := Scalar.addi c0_i32_632 v594
  v595.toNat
def k0_dev31 (d0 : Dev nD) : Nat :=
  let c0_i32_735 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_734 : BitVec 32 := 1#32
  let v741 : BitVec 32 := Scalar.muli v4 c1_i32_734
  let v742 : BitVec 32 := Scalar.addi c0_i32_735 v741
  v742.toNat
def k0_dev32 (d0 : Dev nD) : Nat :=
  let c0_i32_770 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_769 : BitVec 32 := 1#32
  let v765 : BitVec 32 := Scalar.muli v7 c1_i32_769
  let v766 : BitVec 32 := Scalar.addi c0_i32_770 v765
  v766.toNat
def k0_dev33 (d0 : Dev nD) : Nat :=
  let c0_i32_804 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_803 : BitVec 32 := 1#32
  let v789 : BitVec 32 := Scalar.muli v4 c1_i32_803
  let v790 : BitVec 32 := Scalar.addi c0_i32_804 v789
  v790.toNat
def k0_dev34 (d0 : Dev nD) : Nat :=
  let c0_i32_839 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_838 : BitVec 32 := 1#32
  let v813 : BitVec 32 := Scalar.muli v7 c1_i32_838
  let v814 : BitVec 32 := Scalar.addi c0_i32_839 v813
  v814.toNat
def k0_dev35 (d0 : Dev nD) : Nat :=
  let c0_i32_873 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_872 : BitVec 32 := 1#32
  let v837 : BitVec 32 := Scalar.muli v4 c1_i32_872
  let v838 : BitVec 32 := Scalar.addi c0_i32_873 v837
  v838.toNat
def k0_dev36 (d0 : Dev nD) : Nat :=
  let c0_i32_908 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_907 : BitVec 32 := 1#32
  let v861 : BitVec 32 := Scalar.muli v7 c1_i32_907
  let v862 : BitVec 32 := Scalar.addi c0_i32_908 v861
  v862.toNat
def k0_dev37 (d0 : Dev nD) : Nat :=
  let c0_i32_942 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_941 : BitVec 32 := 1#32
  let v885 : BitVec 32 := Scalar.muli v4 c1_i32_941
  let v886 : BitVec 32 := Scalar.addi c0_i32_942 v885
  v886.toNat
def k0_dev38 (d0 : Dev nD) : Nat :=
  let c0_i32_977 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_976 : BitVec 32 := 1#32
  let v909 : BitVec 32 := Scalar.muli v7 c1_i32_976
  let v910 : BitVec 32 := Scalar.addi c0_i32_977 v909
  v910.toNat
def k0_dev39 (d0 : Dev nD) : Nat :=
  let c0_i32_1079 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1078 : BitVec 32 := 1#32
  let v1056 : BitVec 32 := Scalar.muli v4 c1_i32_1078
  let v1057 : BitVec 32 := Scalar.addi c0_i32_1079 v1056
  v1057.toNat
def k0_dev40 (d0 : Dev nD) : Nat :=
  let c0_i32_1136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1135 : BitVec 32 := 1#32
  let v1094 : BitVec 32 := Scalar.muli v4 c1_i32_1135
  let v1095 : BitVec 32 := Scalar.addi c0_i32_1136 v1094
  v1095.toNat
def k0_dev41 (d0 : Dev nD) : Nat :=
  let c0_i32_1216 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1215 : BitVec 32 := 1#32
  let v1146 : BitVec 32 := Scalar.muli v7 c1_i32_1215
  let v1147 : BitVec 32 := Scalar.addi c0_i32_1216 v1146
  v1147.toNat
def k0_dev42 (d0 : Dev nD) : Nat :=
  let c0_i32_1273 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1272 : BitVec 32 := 1#32
  let v1184 : BitVec 32 := Scalar.muli v7 c1_i32_1272
  let v1185 : BitVec 32 := Scalar.addi c0_i32_1273 v1184
  v1185.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x256 : Shape := ⟨2, ![4096, 256]⟩
abbrev S256x32 : Shape := ⟨2, ![256, 32]⟩
abbrev S4096x1 : Shape := ⟨2, ![4096, 1]⟩
abbrev S32x256x512 : Shape := ⟨3, ![32, 256, 512]⟩
abbrev S32 : Shape := ⟨1, ![32]⟩
abbrev S1x32 : Shape := ⟨2, ![1, 32]⟩
abbrev S4096x32 : Shape := ⟨2, ![4096, 32]⟩
abbrev S_ : Shape := ⟨0, ![]⟩
abbrev S4096 : Shape := ⟨1, ![4096]⟩
abbrev S4096x32x512 : Shape := ⟨3, ![4096, 32, 512]⟩
abbrev S4096x32x1 : Shape := ⟨3, ![4096, 32, 1]⟩
abbrev S4096x512 : Shape := ⟨2, ![4096, 512]⟩

abbrev nBuf : Space → Nat
  | .hbm => 35
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x32, .f32⟩
  | .hbm, ⟨2, _⟩ => ⟨S4096x1, .i32⟩
  | .hbm, ⟨3, _⟩ => ⟨S32x256x512, .f32⟩
  | .hbm, ⟨4, _⟩ => ⟨S32, .i32⟩
  | .hbm, ⟨5, _⟩ => ⟨S1x32, .i32⟩
  | .hbm, ⟨6, _⟩ => ⟨S4096x32, .i32⟩
  | .hbm, ⟨7, _⟩ => ⟨S4096x32, .i32⟩
  | .hbm, ⟨8, _⟩ => ⟨S4096x32, .i1⟩
  | .hbm, ⟨9, _⟩ => ⟨S4096x32, .i32⟩
  | .hbm, ⟨10, _⟩ => ⟨S_, .i32⟩
  | .hbm, ⟨11, _⟩ => ⟨S_, .i32⟩
  | .hbm, ⟨12, _⟩ => ⟨S4096x32, .i32⟩
  | .hbm, ⟨13, _⟩ => ⟨S4096x32, .i32⟩
  | .hbm, ⟨14, _⟩ => ⟨S4096x32, .i32⟩
  | .hbm, ⟨15, _⟩ => ⟨S_, .i32⟩
  | .hbm, ⟨16, _⟩ => ⟨S4096, .i32⟩
  | .hbm, ⟨17, _⟩ => ⟨S4096x1, .i32⟩
  | .hbm, ⟨18, _⟩ => ⟨S_, .i32⟩
  | .hbm, ⟨19, _⟩ => ⟨S4096x32, .i32⟩
  | .hbm, ⟨20, _⟩ => ⟨S4096x32, .i1⟩
  | .hbm, ⟨21, _⟩ => ⟨S_, .i32⟩
  | .hbm, ⟨22, _⟩ => ⟨S4096x1, .i32⟩
  | .hbm, ⟨23, _⟩ => ⟨S4096x1, .i1⟩
  | .hbm, ⟨24, _⟩ => ⟨S4096x32, .i1⟩
  | .hbm, ⟨25, _⟩ => ⟨S4096x32, .i1⟩
  | .hbm, ⟨26, _⟩ => ⟨S4096x32x512, .f32⟩
  | .hbm, ⟨27, _⟩ => ⟨S4096x32x1, .i1⟩
  | .hbm, ⟨28, _⟩ => ⟨S_, .f32⟩
  | .hbm, ⟨29, _⟩ => ⟨S_, .f32⟩
  | .hbm, ⟨30, _⟩ => ⟨S4096x32x512, .i1⟩
  | .hbm, ⟨31, _⟩ => ⟨S4096x32x512, .f32⟩
  | .hbm, ⟨32, _⟩ => ⟨S4096x32x512, .f32⟩
  | .hbm, ⟨33, _⟩ => ⟨S_, .f32⟩
  | .hbm, ⟨34, _⟩ => ⟨S4096x512, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_call0_c : Ref sig .tc := ⟨.hbm, 10, rfl⟩
abbrev main_call0_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩

abbrev nD : Nat := 1
abbrev τ : Topo := Topo.v7x

variable {F : FTy → Type} [FloatOps F]
-- ==== Proof.Tables.lean ====
/-
The copies a device makes, numbered, and the order in which its body starts them and waits for them.

Each device makes 28 weight copies and 7 histogram copies to other devices. A weight copy is numbered by a
`Fin 32` (16 clockwise ones, hop by hop and chunk by chunk, then 16 counter-clockwise ones; four of the numbers
name no copy), a histogram copy by a `Fin 7` (its distance less one). A weight chunk is numbered by a `Fin 32`
(slot times four plus expert), a histogram row by its sender's distance, a `Fin 8`.
-/
module

public import Idealize.ShloMosaic.Lib.Tactic

@[expose] public section

namespace Cert.Tables

/-- The copies of one device: weight copies, then histogram copies. -/
abbrev X : Type := Fin 32 ⊕ Fin 7
/-- The regions of one device: weight chunks, then histogram rows by the sender's distance (own row first). -/
abbrev R : Type := Fin 32 ⊕ Fin 8

/-- The numbers that name a copy. -/
def used : X → Bool
  | .inl x => !(x.val == 14 || x.val == 15 || x.val == 28 || x.val == 29)
  | .inr _ => true

/-- The chunk a weight copy reads. -/
def srcW (x : Fin 32) : Fin 32 := ⟨if x.val < 16 then x.val else if x.val < 20 then x.val - 16 else x.val, by split <;> (try split) <;> omega⟩
/-- The chunk a weight copy writes on its target. -/
def dstW (x : Fin 32) : Fin 32 := ⟨if x.val < 28 then x.val + 4 else x.val - 12, by split <;> omega⟩

/-- The region a copy reads. -/
def srcR : X → R
  | .inl x => .inl (srcW x)
  | .inr _ => .inr 0
/-- The region a copy writes on its target. -/
def dstR : X → R
  | .inl x => .inl (dstW x)
  | .inr d => .inr d.succ

/-- Which of the read shares of its source a copy takes. -/
def tok : X → ℕ
  | .inl x => if 16 ≤ x.val ∧ x.val < 20 then 1 else 0
  | .inr d => d.val

/-- How far round the mesh a copy goes. -/
def off : X → ℕ
  | .inl x => if x.val < 16 then 1 else 7
  | .inr d => d.val + 1

/-- The device a copy of `c` goes to. -/
def peer (c : Fin 8) (x : X) : Fin 8 := ⟨(c.val + off x) % 8, Nat.mod_lt _ (by decide)⟩
/-- The device whose copy `x` goes to `c`. -/
def from' (c : Fin 8) (x : X) : Fin 8 := ⟨(c.val + 8 - off x) % 8, Nat.mod_lt _ (by decide)⟩

/-- The device whose experts slot `s` of device `c` holds in the end. -/
def slotDev (c : Fin 8) (s : Fin 8) : Fin 8 := ⟨(if s.val ≤ 4 then c.val + 8 - s.val else c.val + s.val + 4) % 8, Nat.mod_lt _ (by decide)⟩
/-- The device at distance `d` behind `c`. -/
def back (c d : Fin 8) : Fin 8 := ⟨(c.val + 8 - d.val) % 8, Nat.mod_lt _ (by decide)⟩

/-- No copy goes back to the device it comes from. -/
theorem peer_ne (c : Fin 8) (x : X) : peer c x ≠ c := by revert c x; decide
/-- The device whose copy comes to `c` sends that copy to `c`. -/
theorem peer_from (c : Fin 8) (x : X) : peer (from' c x) x = c := by revert c x; decide
/-- The device a copy of `c` goes to receives it from `c`. -/
theorem from_peer (c : Fin 8) (x : X) : from' (peer c x) x = c := by revert c x; decide
/-- A copy of `p` goes to `c` exactly if `p` is the device `c` gets that copy from. -/
theorem peer_eq_iff (p c : Fin 8) (x : X) : peer p x = c ↔ from' c x = p := by revert p c x; decide
/-- Different distances behind `c` give different devices. -/
theorem back_bij (c : Fin 8) : Function.Injective (back c) := by revert c; decide
/-- At distance zero behind `c` is `c` itself. -/
theorem back_zero (c : Fin 8) : back c 0 = c := by revert c; decide
/-- A histogram copy of `c` lands on a device that `c` is the copy's distance behind. -/
theorem back_peer (c : Fin 8) (d : Fin 7) : back (peer c (.inr d)) d.succ = c := by revert c d; decide
/-- A weight copy takes a slot to one that is to hold the same device's experts. -/
theorem slotDev_hop (c : Fin 8) (x : Fin 32) (h : used (.inl x) = true) :
    slotDev c ⟨(srcW x).val / 4, by omega⟩ = slotDev (peer c (.inl x)) ⟨(dstW x).val / 4, by omega⟩ := by revert c x; decide
/-- Slot zero holds the device's own experts. -/
theorem slotDev_zero (c : Fin 8) : slotDev c 0 = c := by revert c; decide
/-- A weight copy keeps the number of the chunk within its slot. -/
theorem chunk_hop (x : Fin 32) (h : used (.inl x) = true) : (srcW x).val % 4 = (dstW x).val % 4 := by revert x; decide

/-- A copy's send semaphore and receive semaphore, as numbers among the DMA semaphores. -/
def semN : X × Bool → ℕ
  | (.inl x, false) => if x.val < 16 then 4 + x.val else 20 + x.val
  | (.inl x, true) => if x.val < 16 then 20 + x.val else 36 + x.val
  | (.inr d, false) => 68 + d.val
  | (.inr d, true) => 75 + d.val
/-- The number of a copy's semaphore is one of the 82 there are. -/
theorem semN_lt (p : X × Bool) : semN p < 82 := by revert p; decide

/-- The copy a DMA semaphore belongs to, and whether it is the receive one. -/
def dec (q : ℕ) : Option (X × Bool) :=
  if q < 4 then none
  else if q < 20 then some (.inl (Fin.ofNat 32 (q - 4)), false)
  else if q < 36 then some (.inl (Fin.ofNat 32 (q - 20)), true)
  else if q < 52 then some (.inl (Fin.ofNat 32 (q - 20)), false)
  else if q < 68 then some (.inl (Fin.ofNat 32 (q - 36)), true)
  else if q < 75 then some (.inr (Fin.ofNat 7 (q - 68)), false)
  else some (.inr (Fin.ofNat 7 (q - 75)), true)
/-- Looking up the number of a copy's semaphore gives that copy back. -/
theorem dec_semN (p : X × Bool) : dec (semN p) = some p := by revert p; decide

/-- The level of a copy's receive semaphore. -/
def lev : X → ℕ
  | .inl x => 2 + (x.val % 16) / 4
  | .inr _ => 2

/-! ### The state of a device's copies -/

/-- An outgoing copy: not started; in flight; its source read. -/
inductive OS | idle | sent | done
  deriving DecidableEq

/-- Where a device stands: its outgoing copies; which incoming ones it has seen land; of each region how many
    read shares have been handed out, or nothing if the region is not (yet) the device's. -/
structure CS where
  out : X → OS
  inn : X → Bool
  reg : R → Option ℕ

/-- One step of the body: a copy started, its source waited for, or the incoming copy of that number waited for. -/
inductive Ev | send (x : X) | ws (x : X) | wr (x : X)

/-- Where a device stands after one more step. -/
def CS.step (s : CS) : Ev → CS
  | .send x => { s with out := Function.update s.out x .sent, reg := Function.update s.reg (srcR x) (some (tok x + 1)) }
  | .ws x => { s with out := Function.update s.out x .done }
  | .wr x => { s with inn := Function.update s.inn x true, reg := Function.update s.reg (dstR x) (some 0) }

/-- Just after the barrier: nothing started, the own experts' four chunks and the own histogram row at hand. -/
def start : CS where
  out _ := .idle
  inn _ := false
  reg
    | .inl g => if g.val < 4 then some 0 else none
    | .inr d => if d.val = 0 then some 0 else none

/-- The copy of chunk `j` on hop `h` to the right. -/
def R' (h j : ℕ) : X := .inl (Fin.ofNat 32 (4 * h + j))
/-- The copy of chunk `j` on hop `h` to the left. -/
def L' (h j : ℕ) : X := .inl (Fin.ofNat 32 (16 + 4 * h + j))
/-- The copy of the histogram row over distance `d + 1`. -/
def H' (d : ℕ) : X := .inr (Fin.ofNat 7 d)

/-- The steps of the body in order. -/
def evs : List Ev :=
  ((List.range 4).flatMap fun j => [.send (R' 0 j), .send (L' 0 j)])
  ++ ((List.range 7).map fun d => .send (H' d))
  ++ ((List.range 7).flatMap fun d => [.ws (H' d), .wr (H' d)])
  ++ ((List.range 2).flatMap fun h => (List.range 4).flatMap fun j =>
      [.ws (R' h j), .wr (R' h j), .send (R' (h + 1) j), .ws (L' h j), .wr (L' h j), .send (L' (h + 1) j)])
  ++ ((List.range 2).flatMap fun j => [.ws (R' 2 j), .wr (R' 2 j), .send (R' 3 j), .ws (L' 2 j), .wr (L' 2 j)])
  ++ ((List.range 2).flatMap fun j => [.ws (R' 2 (2 + j)), .wr (R' 2 (2 + j)), .ws (L' 2 (2 + j)), .wr (L' 2 (2 + j)), .send (L' 3 (2 + j))])
  ++ ((List.range 2).flatMap fun j => [.ws (R' 3 j), .wr (R' 3 j)])
  ++ ((List.range 2).flatMap fun j => [.ws (L' 3 (2 + j)), .wr (L' 3 (2 + j))])

/-- Where the device stands after the first `n` steps. -/
def stAt (n : ℕ) : CS := (evs.take n).foldl CS.step start

/-- One more step of the list moves the device by that step. -/
theorem stAt_succ {n : ℕ} {e : Ev} (h : evs[n]? = some e) : stAt (n + 1) = (stAt n).step e := by
  unfold stAt
  rw [List.take_succ, h, List.foldl_append]; rfl

/-- The body makes 105 steps. -/
theorem evs_length : evs.length = 105 := by decide

/-- What a start of copy `x` at step `n` needs of the tables. -/
def okSend (n : ℕ) (x : X) : Bool :=
  used x && decide ((stAt n).out x = .idle) && decide ((stAt n).reg (srcR x) = some (tok x))
/-- What a wait for the source of copy `x` at step `n` needs of the tables. -/
def okWs (n : ℕ) (x : X) : Bool := used x && decide ((stAt n).out x = .sent)
/-- What a wait for the incoming copy `x` at step `n` needs: every copy not started yet is of a higher level. -/
def okWr (n : ℕ) (x : X) : Bool :=
  used x && !((stAt n).inn x) && decide ((stAt n).reg (dstR x) = none)
    && decide (∀ y, used y = true → (stAt n).out y = .idle → lev x < lev y)

/-- What a step of either kind at place `n` needs of the tables. -/
def okEv (n : ℕ) : Ev → Bool
  | .send x => okSend n x
  | .ws x => okWs n x
  | .wr x => okWr n x

set_option maxRecDepth 20000 in
set_option maxHeartbeats 4000000 in
/-- Every step of the body has what it needs. -/
theorem ok_all : ∀ n : Fin 105, ∀ e, evs[n.val]? = some e → okEv n.val e = true := by
  have h : (List.range 105).all (fun n => match evs[n]? with | some e => okEv n e | none => true) = true := by decide
  intro n e he
  have h1 := List.all_eq_true.mp h n.val (List.mem_range.mpr n.isLt)
  rw [he] at h1; exact h1

end Cert.Tables

end
-- ==== Proof.KernelIdealProto.lean ====
/-
The protocol of the kernel's copies between devices: the semaphores, the regions of the two exchanged buffers,
what they hold, and the schedule of one round per semaphore.

Every device signals every other device's barrier semaphore once and waits for the seven signals it gets; with
its signal a device hands over the regions of its two buffers that the other device's copies write. A copy's send
semaphore then hands back the share of the source the copy read, its receive semaphore the region written.
-/
module

public import proofs.«01_k».proof.Proof.Tables
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Ring
public import Idealize.ShloMosaic.Lib.Tactic

@[expose] public section

noncomputable section

namespace Cert.KernelIdealProof

open Cert.KernelIdeal Cert.KernelIdeal.Gen Cert.Tables

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)
open Idealize.ShloMosaic.Pipeline (Dat Cfg Window BodyObligation cellOf)

variable {F : FTy → Type} [FloatOps F]

/-! ### The resource algebra: the pipeline's copy and the exchange's, whose duties are named by devices -/

/-- The bookkeeping of the rounds of the semaphores. -/
abbrev UB : Type := URounds (GSem nD τ sig) (Fin 8)
/-- All the bookkeeping: that of the staging and that of the rounds. -/
abbrev UU : Type := UR sig nD τ × UB

local notation "𝕄" => MT nD τ sig Unit (Elt F) ℕ UU ℕ

/-- Where the bookkeeping of the staging sits. -/
abbrev EP : Emb (UR sig nD τ) (MT nD τ sig Unit (Elt F) ℕ UU ℕ) := embL
/-- Where the bookkeeping of the rounds sits. -/
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-- A family of resources sorted by where `f` sends each member: `j`'s part holds the members sent to `j`. -/
theorem sorted_by {M : Type} [URA M] {I J : Type} [Fintype I] [Fintype J] [DecidableEq J] (f : I → J) (Φ : I → sProp M) :
    bigSep Finset.univ Φ = bigSep Finset.univ fun j => bigSep Finset.univ fun i => if f i = j then Φ i else iprop(emp) := by
  rw [BI.bigSep_univ_comm]
  refine BI.bigSep_congr fun i _ => ?_
  have h := BI.bigSep_filter Finset.univ (fun j => f i = j) fun _ => Φ i
  rw [show Finset.univ.filter (fun j => f i = j) = {f i} from by ext j; simp [eq_comm], BI.bigSep_singleton] at h
  exact h

/-! ### Buffers and semaphores -/

/-- The staged block of tokens. -/
abbrev xM : Memref sig .tc .vmem S512x256 .f32 := Memref.whole cc0_stg0_0
/-- The staged block of expert numbers. -/
abbrev iM : Memref sig .tc .vmem S512x1 .i32 := Memref.whole cc0_stg1_0
/-- The staged block of experts. -/
abbrev eM : Memref sig .tc .vmem S4x256x512 .f32 := Memref.whole cc0_stg2_0
/-- The staged block of the output. -/
abbrev oM : Memref sig .tc .vmem S512x512 .f32 := Memref.whole cc0_stg3_0
/-- The weight buffer. -/
abbrev wM : Memref sig .tc .vmem S8x4x256x512 .bf16 := Memref.whole cc0_scratch0
/-- The histogram buffer. -/
abbrev hM : Memref sig .tc .vmem S8x1x32 .f32 := Memref.whole cc0_scratch1

/-- The barrier semaphore. -/
abbrev barS : Sem sig := (SemArray.scalar (sig.barrier 0 rfl) : Sems sig S_).sem
/-- The semaphore of a copy: its send one (`false`), its receive one (`true`). -/
def xsem (p : X × Bool) : DmaSem sig := ⟨semN p, semN_lt p⟩

/-- The barrier semaphore of device `c`. -/
abbrev barCell (c : Dev nD) : GSem nD τ sig := ((c : Thread nD τ), .reg barS)
/-- A copy's semaphore on device `c`. -/
abbrev xCell (c : Dev nD) (p : X × Bool) : GSem nD τ sig := ((c : Thread nD τ), .dma (xsem p))

/-- The credit of one copy. -/
abbrev NW : ℕ := Ref.dmaCredit (sig := sig) (κ := .tc) cc0_scratch0 S1x256x512 .bf16
/-- The credit of one histogram copy. -/
abbrev NH : ℕ := Ref.dmaCredit (sig := sig) (κ := .tc) cc0_scratch1 S1x32 .f32
/-- The credit of a copy of either kind. -/
def amtX : X → ℕ
  | .inl _ => NW
  | .inr _ => NH

/-- A weight copy carries some credit. -/
theorem NW_pos : 0 < NW := by decide
/-- A histogram copy carries some credit. -/
theorem NH_pos : 0 < NH := by decide

/-! ### Regions and what they hold -/

/-- Every chunk lies within the weight buffer. -/
theorem inbW (g : Fin 32) : ∀ a, (![g.val / 4, g.val % 4, 0, 0] : Fin 4 → Nat) a + S1x1x256x512.size a ≤ S8x4x256x512.size a := by
  revert g; decide
/-- Every row lies within the histogram buffer. -/
theorem inbH (d : Fin 8) : ∀ a, (![d.val, 0, 0] : Fin 3 → Nat) a + S1x1x32.size a ≤ S8x1x32.size a := by
  revert d; decide

/-- The view of chunk `j` of slot `s`, as the kernel's copies take it. -/
abbrev wV (s j : ℕ) (inb : ∀ a, (![s, j, 0, 0] : Fin 4 → Nat) a + S1x1x256x512.size a ≤ S8x4x256x512.size a) : Memref sig .tc .vmem S1x256x512 .bf16 :=
  (wM.slice (Rect.unit (s := S8x4x256x512) ![s, j, 0, 0] S1x1x256x512.size inb) (fun _ => rfl)).squeeze S1x256x512 squeezes_S1x1x256x512_S1x256x512
/-- The view of a histogram row, as the kernel's copies take it. -/
abbrev hV (o : Fin 3 → ℕ) (inb : ∀ a, o a + S1x1x32.size a ≤ S8x1x32.size a) : Memref sig .tc .vmem S1x32 .f32 :=
  (hM.slice (Rect.unit (s := S8x1x32) o S1x1x32.size inb) (fun _ => rfl)).squeeze S1x32 squeezes_S1x1x32_S1x32

/-- The elements of weight chunk `g`, of histogram row `d`. -/
def wSet (g : Fin 32) : Finset S8x4x256x512.Idx := (Rect.unit (s := S8x4x256x512) ![g.val / 4, g.val % 4, 0, 0] S1x1x256x512.size (inbW g)).set
/-- The indices of one row of the histogram buffer. -/
def hSet (d : Fin 8) : Finset S8x1x32.Idx := (Rect.unit (s := S8x1x32) ![d.val, 0, 0] S1x1x32.size (inbH d)).set

/-- The view of a chunk covers the chunk's indices. -/
theorem wV_set (g : Fin 32) (inb) : (wV (g.val / 4) (g.val % 4) inb).view.set = wSet g := by
  unfold wSet
  exact (View.set_reshape _ _).trans (View.set_slice_whole _ _)
/-- The view of a row covers the row's indices. -/
theorem hV_set (d : Fin 8) (inb) : (hV ![d.val, 0, 0] inb).view.set = hSet d := by
  unfold hSet
  exact (View.set_reshape _ _).trans (View.set_slice_whole _ _)

/-- An index is in a chunk exactly if its first two entries are the chunk's slot and number. -/
theorem mem_wSet (g : Fin 32) (i : S8x4x256x512.Idx) : i ∈ wSet g ↔ (i 0).val = g.val / 4 ∧ (i 1).val = g.val % 4 := by
  unfold wSet
  rw [Rect.mem_set_unit]
  have h2 : (i 2).val < 256 := (i 2).isLt
  have h3 : (i 3).val < 512 := (i 3).isLt
  constructor
  · intro h
    have h0 : g.val / 4 ≤ (i 0).val ∧ (i 0).val < g.val / 4 + 1 := h 0
    have h1 : g.val % 4 ≤ (i 1).val ∧ (i 1).val < g.val % 4 + 1 := h 1
    omega
  · rintro ⟨h0, h1⟩ a
    fin_cases a
    · show g.val / 4 ≤ (i 0).val ∧ (i 0).val < g.val / 4 + 1; omega
    · show g.val % 4 ≤ (i 1).val ∧ (i 1).val < g.val % 4 + 1; omega
    · show 0 ≤ (i 2).val ∧ (i 2).val < 0 + 256; omega
    · show 0 ≤ (i 3).val ∧ (i 3).val < 0 + 512; omega

/-- An index is in a row exactly if its first entry is the row's. -/
theorem mem_hSet (d : Fin 8) (i : S8x1x32.Idx) : i ∈ hSet d ↔ i 0 = d := by
  unfold hSet
  rw [Rect.mem_set_unit]
  have h1 : (i 1).val < 1 := (i 1).isLt
  have h2 : (i 2).val < 32 := (i 2).isLt
  constructor
  · intro h
    have h0 : d.val ≤ (i 0).val ∧ (i 0).val < d.val + 1 := h 0
    exact Fin.ext (show (i 0).val = d.val by omega)
  · rintro rfl a
    fin_cases a
    · show (i 0).val ≤ (i 0).val ∧ (i 0).val < (i 0).val + 1; omega
    · show 0 ≤ (i 1).val ∧ (i 1).val < 0 + 1; omega
    · show 0 ≤ (i 2).val ∧ (i 2).val < 0 + 32; omega

/-- Different chunks share no index. -/
theorem wSet_disj (g g' : Fin 32) (h : g ≠ g') : Disjoint (wSet g) (wSet g') := by
  rw [Finset.disjoint_left]
  intro i h1 h2
  rw [mem_wSet] at h1 h2
  exact h (Fin.ext (by omega))
/-- The chunks together make up the weight buffer. -/
theorem wSet_cover : Finset.univ.biUnion wSet = Finset.univ := by
  refine Finset.eq_univ_iff_forall.mpr fun i => Finset.mem_biUnion.mpr ?_
  have h0 : (i 0).val < 8 := (i 0).isLt
  have h1 : (i 1).val < 4 := (i 1).isLt
  refine ⟨⟨4 * (i 0).val + (i 1).val, by omega⟩, Finset.mem_univ _, (mem_wSet _ _).mpr ⟨?_, ?_⟩⟩ <;> dsimp only <;> omega
/-- Different rows share no index. -/
theorem hSet_disj (d d' : Fin 8) (h : d ≠ d') : Disjoint (hSet d) (hSet d') := by
  rw [Finset.disjoint_left]
  intro i h1 h2
  rw [mem_hSet] at h1 h2
  exact h (h1.symm.trans h2)
/-- The rows together make up the histogram buffer. -/
theorem hSet_cover : Finset.univ.biUnion hSet = Finset.univ :=
  Finset.eq_univ_iff_forall.mpr fun i => Finset.mem_biUnion.mpr ⟨i 0, Finset.mem_univ _, (mem_hSet _ _).mpr rfl⟩

/-- The token block, the chosen experts and the own experts' weights, as the windows bring them in on device `c`. -/
def xstg (c : Dev nD) : (cc0_stg0_0 : Ref sig .tc).ty.Contents (Elt F) :=
  (win0_0.blk (0 : Fin 1)).view.read (Elt F) ((s₀ m ρ).mem ((c : Thread nD τ).loc main_arg0))
/-- The staged block of expert numbers of device `c`. -/
def istg (c : Dev nD) : (cc0_stg1_0 : Ref sig .tc).ty.Contents (Elt F) :=
  (win0_1.blk (0 : Fin 1)).view.read (Elt F) ((s₀ m ρ).mem ((c : Thread nD τ).loc main_arg2))
/-- The staged block of experts of device `c`. -/
def estg (c : Dev nD) : (cc0_stg2_0 : Ref sig .tc).ty.Contents (Elt F) :=
  (win0_2.blk (0 : Fin 1)).view.read (Elt F) ((s₀ m ρ).mem ((c : Thread nD τ).loc main_arg3))

/-- The place within its slot of an index of the weight buffer. -/
def inSlot (i : S8x4x256x512.Idx) : S1x4x256x512.Idx
  | 0 => (0 : Fin 1)
  | 1 => i 1
  | 2 => i 2
  | 3 => i 3
/-- The place within its row of an index of the histogram buffer. -/
def inRow (i : S8x1x32.Idx) : S1x1x32.Idx
  | 0 => (0 : Fin 1)
  | 1 => (0 : Fin 1)
  | 2 => i 2

/-- What the weight buffer of device `c` holds once everything has landed: in slot `s` the experts of `slotDev c s`. -/
def WB (c : Dev nD) : (cc0_scratch0 : Ref sig .tc).ty.Contents (Elt F) := fun i => k0_pay4 (estg m ρ (slotDev c (i 0))) (inSlot i)
/-- What the histogram buffer holds, on every device: in row `d` the histogram of device `d`'s tokens. -/
def HB : (cc0_scratch1 : Ref sig .tc).ty.Contents (Elt F) := fun i => k0_pay3 (istg m ρ (i 0)) (inRow i)

/-- The share `q` of a region at its contents; the region at any contents, whole. -/
def regPts (c : Dev nD) (r : R) (q : PosShare TreeShare) : sProp 𝕄 :=
  match r with
  | .inl g => (wM : Memref sig .tc .vmem S8x4x256x512 .bf16).view.loc (c : Thread nD τ) ↦[wSet g]{q} WB m ρ c
  | .inr d => (hM : Memref sig .tc .vmem S8x1x32 .f32).view.loc (c : Thread nD τ) ↦[hSet (back c d)]{q} HB m ρ
/-- A region of device `c`, whole, whatever it holds. -/
def regAny (c : Dev nD) (r : R) : sProp 𝕄 :=
  match r with
  | .inl g => iprop(∃ f, (wM : Memref sig .tc .vmem S8x4x256x512 .bf16).view.loc (c : Thread nD τ) ↦[wSet g]{fullShare} f)
  | .inr d => iprop(∃ f, (hM : Memref sig .tc .vmem S8x1x32 .f32).view.loc (c : Thread nD τ) ↦[hSet (back c d)]{fullShare} f)

omit [FloatOps F] in
/-- A region with any contents may be put in an invariant. -/
instance regAny_storable (c : Dev nD) (r : R) : BI.Storable (upEmb : UEmb _ 𝕄) (regAny (F := F) c r) := by
  unfold regAny; split <;> infer_instance
/-- A share of a region with its final contents may be put in an invariant. -/
instance regPts_storable (c : Dev nD) (r : R) (q : PosShare TreeShare) : BI.Storable (upEmb : UEmb _ 𝕄) (regPts m ρ c r q) := by
  unfold regPts; split <;> infer_instance

/-- Two chunk views put an index of theirs at the same place of their chunks. -/
theorem wV_emb (y : S1x256x512.Idx) : ∃ z : S1x1x256x512.Idx, ∀ (s j : ℕ) (inb) (a : Fin 4),
    ((wV s j inb).view.emb y a).val = (![s, j, 0, 0] : Fin 4 → ℕ) a + (z a).val :=
  ⟨Shape.reshapeEquiv (s := S1x1x256x512) (s' := S1x256x512) (by decide) y, fun s j inb a => by rw [show ((wV s j inb).view.emb y a).val = ((Rect.unit (s := S8x4x256x512) ![s, j, 0, 0] S1x1x256x512.size inb).emb _ a).val from rfl, Rect.emb_apply]; show _ + 1 * _ = _; rw [Nat.one_mul]; rfl⟩

/-- A copy of a weight chunk leaves at its target what the target's buffer is to hold there. -/
theorem w_landed (c : Dev nD) (x : Fin 32) (hu : used (.inl x) = true) (inb inb') (fd : (cc0_scratch0 : Ref sig .tc).ty.Contents (Elt F))
    (i : S8x4x256x512.Idx) (hi : i ∈ wSet (dstW x)) :
    (wV ((dstW x).val / 4) ((dstW x).val % 4) inb').view.write (Elt F) fd ((wV ((srcW x).val / 4) ((srcW x).val % 4) inb).view.read (Elt F) (WB m ρ c)) Finset.univ i
      = WB m ρ (peer c (.inl x)) i := by
  rw [← wV_set _ inb'] at hi
  obtain ⟨y, -, rfl⟩ := Finset.mem_map.mp hi
  rw [View.write_emb_of_mem _ _ (Finset.mem_univ y)]
  show WB m ρ c ((wV ((srcW x).val / 4) ((srcW x).val % 4) inb).view.emb y) = WB m ρ _ ((wV ((dstW x).val / 4) ((dstW x).val % 4) inb').view.emb y)
  obtain ⟨z, hz⟩ := wV_emb y
  have hs := hz _ _ inb
  have hd := hz _ _ inb'
  have z0 : (z 0).val = 0 := by have : (z 0).val < 1 := (z 0).isLt; omega
  generalize (wV ((srcW x).val / 4) ((srcW x).val % 4) inb).view.emb y = a at hs ⊢
  generalize (wV ((dstW x).val / 4) ((dstW x).val % 4) inb').view.emb y = b at hd ⊢
  have e0 : slotDev c (a 0) = slotDev (peer c (.inl x)) (b 0) := by
    have h1 := slotDev_hop c x hu
    have ha : (a 0 : Fin 8) = ⟨(srcW x).val / 4, by have := (srcW x).isLt; show _ < 8; omega⟩ := Fin.ext ((hs 0).trans (by rw [z0]; rfl))
    have hb : (b 0 : Fin 8) = ⟨(dstW x).val / 4, by have := (dstW x).isLt; show _ < 8; omega⟩ := Fin.ext ((hd 0).trans (by rw [z0]; rfl))
    rw [ha, hb]; exact h1
  have e1 : inSlot a = inSlot b := by
    have hc := chunk_hop x hu
    funext k
    fin_cases k
    · rfl
    · refine Fin.ext ((hs 1).trans (Eq.trans ?_ (hd 1).symm))
      show (srcW x).val % 4 + _ = (dstW x).val % 4 + _
      rw [hc]
    · exact Fin.ext ((hs 2).trans (hd 2).symm)
    · exact Fin.ext ((hs 3).trans (hd 3).symm)
  show k0_pay4 (estg m ρ (slotDev c (a 0))) (inSlot a) = k0_pay4 (estg m ρ (slotDev _ (b 0))) (inSlot b)
  rw [e0, e1]

/-- A copy of a histogram row leaves at its target that row. -/
theorem h_landed (o : Fin 3 → ℕ) (inb inb') (fd : (cc0_scratch1 : Ref sig .tc).ty.Contents (Elt F))
    (i : S8x1x32.Idx) (d : Fin 8) (ho : o = ![d.val, 0, 0]) (hi : i ∈ hSet d) :
    (hV o inb').view.write (Elt F) fd ((hV o inb).view.read (Elt F) (HB m ρ)) Finset.univ i = HB m ρ i := by
  subst ho
  rw [← hV_set _ inb'] at hi
  obtain ⟨y, -, rfl⟩ := Finset.mem_map.mp hi
  rw [View.write_emb_of_mem _ _ (Finset.mem_univ y)]
  rfl

/-! ### The schedule -/

/-- What device `p`'s signal hands device `c`: the regions of `p`'s buffers that `c`'s copies write. -/
def barPay (c p : Dev nD) : sProp 𝕄 :=
  bigSep Finset.univ fun x : X => if used x = true ∧ peer c x = p then regAny p (dstR x) else iprop(emp)

omit [FloatOps F] in
/-- What a barrier signal hands over may be put in an invariant. -/
instance barPay_storable (c p : Dev nD) : BI.Storable (upEmb : UEmb _ 𝕄) (barPay (F := F) c p) := by
  unfold barPay
  have h : ∀ x : X, BI.Storable (upEmb : UEmb _ 𝕄) (if used x = true ∧ peer c x = p then regAny (F := F) p (dstR x) else iprop(emp)) :=
    fun x => by split <;> infer_instance
  infer_instance

/-- What a copy's semaphore hands its device: the send one the share of the source, the receive one the region written. -/
def xPay (c : Dev nD) : X × Bool → sProp 𝕄
  | (x, false) => regPts m ρ c (srcR x) (shareTokN fullShare (tok x))
  | (x, true) => regPts m ρ c (dstR x) fullShare

/-- What a copy's semaphore hands over may be put in an invariant. -/
instance xPay_storable (c : Dev nD) (p : X × Bool) : BI.Storable (upEmb : UEmb _ 𝕄) (xPay m ρ c p) := by
  obtain ⟨x, _ | _⟩ := p <;> (unfold xPay; infer_instance)

/-- One round, round 0: a barrier semaphore has one duty for each other device, of one unit; a copy's semaphore one
    duty, of the copy's credit. -/
def sched : Rounds.Schedule (GSem nD τ sig) (Fin 8) 𝕄 where
  duties g r := if r = 0 ∧ g.1.2 = .tc then
      (match g.2 with
        | .reg b => if b = barS then Finset.univ.erase g.1.1 else ∅
        | .dma q => match dec q.val with
          | some p => if used p.1 = true then {0} else ∅
          | none => ∅)
    else ∅
  unitless _ := False
  amount g _ _ := match g.2 with
    | .reg _ => 1
    | .dma q => match dec q.val with
      | some p => amtX p.1
      | none => 1
  payload g _ d := match g.2 with
    | .reg _ => barPay g.1.1 d
    | .dma q => match dec q.val with
      | some p => xPay m ρ g.1.1 p
      | none => iprop(emp)
  amount_pos g _ _ _ := by
    obtain ⟨t, b | q⟩ := g
    · exact Nat.one_pos
    · show 0 < (match dec q.val with | some p => amtX p.1 | none => 1)
      cases dec q.val with
      | none => exact Nat.one_pos
      | some p => obtain ⟨x | d, _⟩ := p; exacts [NW_pos, NH_pos]

/-- Everything the schedule hands over may be put in an invariant. -/
instance sched_payload_storable (g : GSem nD τ sig) (r : ℕ) (d : Fin 8) :
    BI.Storable (upEmb : UEmb _ 𝕄) ((sched (F := F) m ρ).payload g r d) := by
  obtain ⟨t, b | q⟩ := g
  · show BI.Storable upEmb (barPay t.1 d); infer_instance
  · show BI.Storable upEmb (match dec q.val with | some p => xPay m ρ t.1 p | none => iprop(emp))
    cases dec q.val <;> infer_instance

section Sched
variable (c : Dev nD)

/-- The barrier semaphore of `c` is signalled once by every other device. -/
theorem duties_bar : (sched (F := F) m ρ).duties (barCell c) 0 = Finset.univ.erase c := by
  dsimp only [sched]; rw [if_pos ⟨rfl, rfl⟩]; exact if_pos rfl
/-- The semaphore of a copy that is made is signalled once. -/
theorem duties_x (p : X × Bool) (h : used p.1 = true) : (sched (F := F) m ρ).duties (xCell c p) 0 = {0} := by
  dsimp only [sched, xsem]; rw [if_pos ⟨rfl, rfl⟩, dec_semN]; exact if_pos h
/-- The semaphore of a copy that is not made is never signalled. -/
theorem duties_x_unused (p : X × Bool) (h : used p.1 = false) (r : ℕ) : (sched (F := F) m ρ).duties (xCell c p) r = ∅ := by
  dsimp only [sched, xsem]; split
  · rw [dec_semN]; exact if_neg (by rw [h]; exact Bool.false_ne_true)
  · rfl
/-- No semaphore has a second round. -/
theorem duties_later (g : GSem nD τ sig) : ∀ r, 1 ≤ r → (sched (F := F) m ρ).duties g r = ∅ :=
  fun r hr => by dsimp only [sched]; rw [if_neg fun h => by omega]

/-- A barrier signal counts one. -/
theorem amount_bar (d : Fin 8) : (sched (F := F) m ρ).amount (barCell c) 0 d = 1 := rfl
/-- A copy's signal counts the copy's credit. -/
theorem amount_x (p : X × Bool) (d : Fin 8) : (sched (F := F) m ρ).amount (xCell c p) 0 d = amtX p.1 := by
  dsimp only [sched, xsem]; rw [dec_semN]
/-- A barrier signal hands over what the schedule of the barrier says. -/
theorem payload_bar (d : Fin 8) : (sched (F := F) m ρ).payload (barCell c) 0 d = barPay c d := rfl
/-- A copy's signal hands over what the schedule of the copy says. -/
theorem payload_x (p : X × Bool) (d : Fin 8) : (sched (F := F) m ρ).payload (xCell c p) 0 d = xPay m ρ c p := by
  dsimp only [sched, xsem]; rw [dec_semN]

/-- The wait on the barrier semaphore is for seven signals. -/
theorem expect_bar : (sched (F := F) m ρ).expect (barCell c) 0 = 7 := by
  unfold Schedule.expect Schedule.amountOf
  rw [duties_bar, Finset.sum_congr rfl fun d _ => amount_bar m ρ c d, Finset.sum_const, Finset.card_erase_of_mem (Finset.mem_univ _)]
  rfl
/-- The wait on a copy's semaphore is for the copy's credit. -/
theorem expect_x (p : X × Bool) (h : used p.1 = true) : (sched (F := F) m ρ).expect (xCell c p) 0 = amtX p.1 := by
  unfold Schedule.expect Schedule.amountOf
  rw [duties_x m ρ c p h, Finset.sum_singleton, amount_x]

/-- The regions a device's copies write on other devices, as the seven signals bring them. -/
theorem rest_bar : bigSep ((sched (F := F) m ρ).duties (barCell c) 0 \ ∅) (fun d => (sched (F := F) m ρ).payload (barCell c) 0 d)
    = bigSep Finset.univ fun x : X => if used x = true then regAny (peer c x) (dstR x) else iprop(emp) := by
  have e : (fun d => (sched (F := F) m ρ).payload (barCell c) 0 d) = fun d => barPay c d := funext fun d => payload_bar m ρ c d
  rw [Finset.sdiff_empty, duties_bar, e, sorted_by (peer c) (fun x : X => if used x = true then (regAny (peer c x) (dstR x) : sProp 𝕄) else iprop(emp))]
  have h0 : (barPay c c : sProp 𝕄) = iprop(emp) := by
    unfold barPay
    rw [bigSep_congr (Ψ := fun _ => iprop(emp)) fun x _ => if_neg fun h => peer_ne c x h.2]
    exact BI.bigSep_emp_const _
  have h1 : (bigSep Finset.univ fun d => (barPay c d : sProp 𝕄)) = bigSep (Finset.univ.erase c) fun d => barPay c d := by
    refine (BI.bigSep_univ_split c).trans ?_
    rw [h0]
    exact equiv_iff.mp emp_sep
  rw [← h1]
  refine bigSep_congr fun d _ => ?_
  unfold barPay
  refine bigSep_congr fun x _ => ?_
  by_cases h : peer c x = d
  · subst h; by_cases h' : used x = true <;> simp [h']
  · simp [h]
/-- All that the one round of a copy's semaphore hands over is the copy's payload. -/
theorem rest_x (p : X × Bool) (h : used p.1 = true) :
    bigSep ((sched (F := F) m ρ).duties (xCell c p) 0 \ ∅) (fun d => (sched (F := F) m ρ).payload (xCell c p) 0 d) = xPay m ρ c p := by
  rw [Finset.sdiff_empty, duties_x m ρ c p h, bigSep_singleton, payload_x]

end Sched

end Cert.KernelIdealProof

end
-- ==== Proof.KernelIdealSteps.lean ====
/-
The state of a device between two steps of its body after the barrier, and one rule per kind of step.
-/
module

public import proofs.«01_k».proof.Proof.KernelIdealProto

@[expose] public section

noncomputable section

namespace Cert.KernelIdealProof

open Cert.KernelIdeal Cert.KernelIdeal.Gen Cert.Tables

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ### Levels and debts -/

/-- Every semaphore of a tensor core has one level. -/
def L (g : GSem nD τ sig) : Finset Unit := if g.1.2 = .tc then {()} else ∅
/-- Barrier semaphores at 1, a copy's receive semaphore at the copy's level, everything else at 0. -/
def lv (g : GSem nD τ sig) (_ : Unit) : ℕ :=
  match g.2 with
  | .reg _ => 1
  | .dma q => match dec q.val with
    | some (x, true) => lev x
    | _ => 0

/-- Semaphores of other cores have no level. -/
theorem L_of_ne (g : GSem nD τ sig) (h : g.1.2 ≠ .tc) : L g = ∅ := if_neg h
/-- A semaphore of a tensor core has one level. -/
theorem L_tc (c : Dev nD) (sm : SemLoc sig) : L ((c : Thread nD τ), sm) = {()} := if_pos rfl
/-- A receive semaphore is at its copy's level. -/
theorem lv_recv (c : Dev nD) (x : X) : lv (xCell c (x, true)) () = lev x := by dsimp only [lv, xsem]; rw [dec_semN]
/-- A send semaphore is at level zero. -/
theorem lv_send (c : Dev nD) (x : X) : lv (xCell c (x, false)) () = 0 := by dsimp only [lv, xsem]; rw [dec_semN]
/-- Every copy is above the barrier's level. -/
theorem lev_pos (x : X) : 1 < lev x := by revert x; decide

/-- What copy `x` of device `c` owes its target. -/
def owesX (c : Dev nD) (x : X) : CellTallies nD τ sig Unit := tallyAt (xCell (peer c x) (x, true)) () (amtX x)
/-- What device `c` owes for the copies it has not started. -/
def debt (c : Dev nD) (o : X → OS) : CellTallies nD τ sig Unit :=
  ∑ x : X, if used x = true ∧ o x = .idle then owesX c x else 0

/-- Starting a copy takes what it owes off the debt. -/
theorem debt_send (c : Dev nD) (o : X → OS) (x : X) (hu : used x = true) (hx : o x = .idle) :
    debt c o = debt c (Function.update o x .sent) + tallyAt (xCell (peer c x) (x, true)) () (amtX x) := by
  unfold debt
  rw [← Finset.sum_erase_add _ _ (Finset.mem_univ x),
    ← Finset.sum_erase_add (s := Finset.univ) (a := x) (fun y => if used y = true ∧ Function.update o x .sent y = .idle then owesX c y else 0) (Finset.mem_univ x)]
  rw [if_pos ⟨hu, hx⟩, Function.update_self, if_neg (fun h => by cases h.2), add_zero]
  congr 1
  refine Finset.sum_congr rfl fun y hy => ?_
  rw [Function.update_of_ne (Finset.ne_of_mem_erase hy)]

/-- The debt depends only on which copies have not been started. -/
theorem debt_congr (c : Dev nD) (o o' : X → OS) (h : ∀ y, used y = true → (o y = .idle ↔ o' y = .idle)) : debt c o = debt c o' := by
  unfold debt
  refine Finset.sum_congr rfl fun y _ => ?_
  by_cases hu : used y = true
  · by_cases h' : o y = .idle
    · rw [if_pos ⟨hu, h'⟩, if_pos ⟨hu, (h y hu).mp h'⟩]
    · rw [if_neg fun q => h' q.2, if_neg fun q => h' ((h y hu).mpr q.2)]
  · rw [if_neg fun q => hu q.1, if_neg fun q => hu q.1]

/-- What is owed is owed to the target of some copy not yet started. -/
theorem debt_pos {c : Dev nD} {o : X → OS} {g : GSem nD τ sig} {u : Unit} (h : 0 < debt c o g u) :
    ∃ y, used y = true ∧ o y = .idle ∧ g = xCell (peer c y) (y, true) := by
  by_contra hn
  have : debt c o g u = 0 := by
    unfold debt
    rw [Finset.sum_apply, Finsupp.finsetSum_apply]
    refine Finset.sum_eq_zero fun y _ => ?_
    split
    · rename_i hy
      unfold owesX
      rw [tallyAt_apply, if_neg fun q => hn ⟨y, hy.1, hy.2, q.1⟩]
    · rfl
  omega

/-- A device may wait on a copy's semaphore if every copy it has not started is of a higher level. -/
theorem mayWait_x (c : Dev nD) (p : X × Bool) (o : X → OS) (h : ∀ y, used y = true → o y = .idle → lv (xCell c p) () < lev y) :
    (levAts L lv : sProp 𝕄) ⊢ MayWait (c : Thread nD τ) (.dma (xsem p)) () (debt c o) :=
  MayOwe.of_cut (L := L) (lev := lv) (lv (xCell c p) ()) (fun q hq => by rw [Finset.mem_singleton.mp hq, L_tc]; exact Finset.mem_singleton_self _)
    (fun g u hg => by obtain ⟨y, -, -, rfl⟩ := debt_pos hg; rw [L_tc]; exact Finset.mem_singleton_self _)
    (fun q hq => by rw [Finset.mem_singleton.mp hq])
    (fun g u hg => by obtain ⟨y, hu, hy, rfl⟩ := debt_pos hg; exact (h y hu hy).trans_eq (lv_recv _ y).symm)

/-- One summand comes out of a separating conjunction over a family of states; the whole comes back with that state changed. -/
theorem turn {I A : Type} [Fintype I] [DecidableEq I] (P : I → A → sProp 𝕄) (f : I → A) (i : I) (a : A) :
    (bigSep Finset.univ fun j => P j (f j)) ⊢ iprop(P i (f i) ∗ (P i a -∗ bigSep Finset.univ fun j => P j (Function.update f i a j))) := by
  iintro H
  ihave H' := (bigSep_univ_turn P f i) $$ H
  icases H' with ⟨H1, H2⟩
  isplitl [H1]; · iexact H1
  ispecialize H2 $$ %a
  iexact H2

/-! ### The state -/

/-- All the semaphores of a device that the exchange uses: the barrier one and the copies'. -/
abbrev kcell (ck : Dev nD × Option (X × Bool)) : GSem nD τ sig := match ck.2 with
  | none => barCell ck.1
  | some p => xCell ck.1 p

/-- The invariants of all devices' semaphores, and that each is at its round. -/
def records (K : Dev nD × Option (X × Bool) → ℕ) : sProp 𝕄 :=
  iprop((bigSep Finset.univ fun ck : Dev nD × Option (X × Bool) => cellInv ER (sched m ρ) (K ck) (kcell ck))
    ∗ bigSep Finset.univ fun ck : Dev nD × Option (X × Bool) => reached ER (kcell ck) 0)

/-- The records are kept for good. -/
instance records_persistent (K : Dev nD × Option (X × Bool) → ℕ) : BI.Persistent (records m ρ K) := by unfold records; infer_instance

/-- The records hold the invariant of every semaphore. -/
theorem inv_at (K : Dev nD × Option (X × Bool) → ℕ) (ck : Dev nD × Option (X × Bool)) :
    records m ρ K ⊢ cellInv ER (sched m ρ) (K ck) (kcell ck) := by
  have h : (bigSep Finset.univ fun ck : Dev nD × Option (X × Bool) => (cellInv ER (sched m ρ) (K ck) (kcell ck) : sProp 𝕄)) ⊢ cellInv ER (sched m ρ) (K ck) (kcell ck) :=
    bigSep_elim (Finset.mem_univ ck)
  unfold records
  iintro ⟨H, -⟩
  iapply h; iexact H
/-- The records say that every semaphore has reached round zero. -/
theorem reached_at (K : Dev nD × Option (X × Bool) → ℕ) (ck : Dev nD × Option (X × Bool)) :
    records m ρ K ⊢ reached ER (kcell ck) 0 := by
  have h : (bigSep Finset.univ fun ck : Dev nD × Option (X × Bool) => (reached ER (kcell ck) 0 : sProp 𝕄)) ⊢ reached ER (kcell ck) 0 :=
    bigSep_elim (Finset.mem_univ ck)
  unfold records
  iintro ⟨-, H⟩
  iapply h; iexact H

/-- An outgoing copy's resources. -/
def outSt (c : Dev nD) (x : X) : OS → sProp 𝕄
  | .idle => iprop((if used x = true then iprop(dutyTok ER (xCell c (x, false)) 0 0 ∗ dutyTok ER (xCell (peer c x) (x, true)) 0 0 ∗ regAny (peer c x) (dstR x)) else iprop(emp))
      ∗ atPos ER (xCell c (x, false)) 0 ∅ 0)
  | .sent => iprop(cred (tallyAt (xCell c (x, false)) () (amtX x)) ∗ atPos ER (xCell c (x, false)) 0 ∅ 0)
  | .done => iprop(regPts m ρ c (srcR x) (shareTokN fullShare (tok x)) ∗ atPos ER (xCell c (x, false)) 1 ∅ 0)

/-- An incoming copy's resources. -/
def inSt (c : Dev nD) (x : X) : Bool → sProp 𝕄
  | false => iprop((if used x = true then cred (tallyAt (xCell c (x, true)) () (amtX x)) else iprop(emp)) ∗ atPos ER (xCell c (x, true)) 0 ∅ 0)
  | true => atPos ER (xCell c (x, true)) 1 ∅ 0

/-- A region's resources. -/
def regSt (c : Dev nD) (r : R) : Option ℕ → sProp 𝕄
  | none => iprop(emp)
  | some k => regPts m ρ c r (shareDrop fullShare k)

/-- A buffer of device `c`, whole, with contents `f`. -/
abbrev stg (c : Dev nD) (b : Ref sig .tc) (f : b.ty.Contents (Elt F)) : sProp 𝕄 := (((c : Thread nD τ).loc b) ↦{fullShare} f)

/-- Device `c` after the barrier, its copies at `s`, its result block at `o`. -/
def St (K : Dev nD × Option (X × Bool) → ℕ) (c : Dev nD) (s : CS) (o : (cc0_stg3_0 : Ref sig .tc).ty.Contents (Elt F)) : sProp 𝕄 :=
  iprop(records m ρ K ∗ levAts L lv ∗ atPos ER (barCell c) 1 ∅ 0
    ∗ (bigSep Finset.univ fun x => outSt m ρ c x (s.out x))
    ∗ (bigSep Finset.univ fun x => inSt c x (s.inn x))
    ∗ (bigSep Finset.univ fun r => regSt m ρ c r (s.reg r))
    ∗ stg c cc0_stg0_0 (xstg m ρ c) ∗ stg c cc0_stg1_0 (istg m ρ c) ∗ stg c cc0_stg2_0 (estg m ρ c) ∗ stg c cc0_stg3_0 o
    ∗ ∃ W, owes (c : Thread nD τ) (debt c s.out) W)

/-- No loop needs a variant. -/
abbrev 𝒱₀ : Variants := Variants.none

section Steps

variable (K : Dev nD × Option (X × Bool) → ℕ) {c : Dev nD} {o : (cc0_stg3_0 : Ref sig .tc).ty.Contents (Elt F)}
variable {α : Type}

/-- The body's programs run on device `c`. -/
abbrev Wp (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The step in place `n` has what it needs. -/
theorem ok_at {n : ℕ} {e : Ev} (hev : evs[n]? = some e) : okEv n e = true :=
  ok_all ⟨n, by have := (List.getElem?_eq_some_iff.mp hev).1; rwa [evs_length] at this⟩ e hev

/-- Handing out the next share of a region. -/
theorem reg_share (c : Dev nD) (r : R) (k : ℕ) :
    regPts m ρ c r (shareDrop fullShare k) ⊢ iprop(regPts m ρ c r (shareDrop fullShare (k + 1)) ∗ regPts m ρ c r (shareTokN fullShare k)) := by
  obtain g | d := r <;> exact (pointsTo_share (PosShare.mem_left_op_right _)).1

/-- The start of a copy, given that its two views are the copy's source and target regions and that it lands what the target's
    region is to hold. -/
theorem step_send {Q : α → sProp 𝕄} (x : X) {n : ℕ} (hev : evs[n]? = some (.send x)) {sp sp' : Space} {sh : Shape} {e : EltTy}
    {src : Memref sig .tc sp sh e} {dst : Memref sig (Dev.tc (peer c x) : Thread nD τ).2.kind sp' sh e} {hsc : dst.view.ref.isScScratch = false}
    {hsrc : src.view.WordExact} {hdst : dst.view.WordExact}
    {hsem : DmaTarget.Typed sp (.dma (xsem (x, true))) (.remote (Dev.tc (peer c x) : Thread nD τ) dst (.dma (xsem (x, false))) hsc)}
    (fs : Buf (Elt F) (src.view.loc (c : Thread nD τ)))
    (hN : dst.view.amount (.dma (xsem (x, true))) = amtX x)
    (hfs : (src.view.loc (c : Thread nD τ) ↦[src.view.set]{shareTokN fullShare (tok x)} fs : sProp 𝕄) = regPts m ρ c (srcR x) (shareTokN fullShare (tok x)))
    (hfd : (regAny (peer c x) (dstR x) : sProp 𝕄) = iprop(∃ fd, dst.view.loc (peer c x : Thread nD τ) ↦[dst.view.set]{fullShare} fd))
    (hl : ∀ fd, (dst.view.loc (peer c x : Thread nD τ) ↦[dst.view.set]{fullShare} (dst.view.write (Elt F) fd (src.view.read (Elt F) fs) Finset.univ) : sProp 𝕄)
      = regPts m ρ (peer c x) (dstR x) fullShare)
    {k : PUnit.{1} → Prog (TpuEff nD τ sig (Elt F) Λ₀ .tc) α}
    (h : St m ρ K c (stAt (n + 1)) o ⊢ Wp c (k ⟨⟩) Q) :
    St m ρ K c (stAt n) o ⊢ Wp c (.op (.enqueueDma src (.remote (Dev.tc (peer c x) : Thread nD τ) dst (.dma (xsem (x, false))) hsc) (.dma (xsem (x, true))) hsrc hdst hsem) k) Q := by
  have hok : okSend n x = true := ok_at hev
  rw [stAt_succ hev] at h
  obtain ⟨⟨hu, ho⟩, hr⟩ : (used x = true ∧ (stAt n).out x = .idle) ∧ (stAt n).reg (srcR x) = some (tok x) := by simpa [okSend] using hok
  generalize stAt n = s at h ho hr
  have key : ∀ fd W, iprop(cellInv ER (sched m ρ) (K (c, some (x, false))) (xCell c (x, false)) ∗ cellInv ER (sched m ρ) (K (peer c x, some (x, true))) (xCell (peer c x) (x, true))
        ∗ (src.view.loc (c : Thread nD τ) ↦[src.view.set]{shareTokN fullShare (tok x)} fs) ∗ (dst.view.loc (peer c x : Thread nD τ) ↦[dst.view.set]{fullShare} fd)
        ∗ owes (c : Thread nD τ) (debt c s.out) W ∗ dutyTok ER (xCell c (x, false)) 0 0 ∗ reached ER (xCell c (x, false)) 0
        ∗ dutyTok ER (xCell (peer c x) (x, true)) 0 0 ∗ reached ER (xCell (peer c x) (x, true)) 0)
      ⊢ iprop(((cred (tallyAt (xCell c (x, false)) () (amtX x)) ∗ owes (c : Thread nD τ) (debt c (Function.update s.out x .sent)) W) -∗ Wp c (k ⟨⟩) Q)
          -∗ Wp c (.op (.enqueueDma src (.remote (Dev.tc (peer c x) : Thread nD τ) dst (.dma (xsem (x, false))) hsc) (.dma (xsem (x, true))) hsrc hdst hsem) k) Q) := fun fd W =>
    Rounds.wp_send_pointsTo 𝒱₀ ER (sched m ρ) (c : Thread nD τ) none (κ₁ := K (c, some (x, false))) (κ₂ := K (peer c x, some (x, true)))
      (r₁ := 0) (r₂ := 0) (d₁ := 0) (d₂ := 0) (fd := fd)
      (by rw [duties_x m ρ c (x, false) hu]; exact Finset.mem_singleton_self _) (by rw [duties_x m ρ (peer c x) (x, true) hu]; exact Finset.mem_singleton_self _)
      () () (amtX x) hN (amount_x m ρ c (x, false) 0) (amount_x m ρ (peer c x) (x, true) 0) (debt c (Function.update s.out x .sent)) (debt_send c s.out x hu ho) (W := W)
      (by rw [payload_x m ρ c (x, false)]; exact Entails.of_eq hfs)
      (by rw [payload_x m ρ (peer c x) (x, true)]; exact Entails.of_eq (hl fd))
  unfold St at h ⊢
  iintro ⟨#HR, #Hlev, HB, Hout, Hin, Hreg, Hx, Hi, He, Ho, ⟨%W, HO⟩⟩
  ihave Hout' := (turn (outSt m ρ c) s.out x .sent) $$ Hout
  icases Hout' with ⟨Hcur, Hback⟩
  ihave Hreg' := (turn (regSt m ρ c) s.reg (srcR x) (some (tok x + 1))) $$ Hreg
  icases Hreg' with ⟨Hr, Hrback⟩
  rw [ho, hr]
  dsimp only [outSt, regSt]
  rw [if_pos hu, hfd]
  icases Hcur with ⟨⟨Hd₁, Hd₂, ⟨%fd, Hdst⟩⟩, Hat⟩
  ihave Hr' := (reg_share m ρ c (srcR x) (tok x)) $$ Hr
  icases Hr' with ⟨Hr, Hs'⟩
  ihave Hs := (Entails.of_eq hfs.symm) $$ Hs'
  iapply (key fd W) $$ [Hs Hdst HO Hd₁ Hd₂]
  · isplitr; · iapply (inv_at m ρ K (c, some (x, false))); iexact HR
    isplitr; · iapply (inv_at m ρ K (peer c x, some (x, true))); iexact HR
    isplitl [Hs]; · iexact Hs
    isplitl [Hdst]; · iexact Hdst
    isplitl [HO]; · iexact HO
    isplitl [Hd₁]; · iexact Hd₁
    isplitr; · iapply (reached_at m ρ K (c, some (x, false))); iexact HR
    isplitl [Hd₂]; · iexact Hd₂
    iapply (reached_at m ρ K (peer c x, some (x, true))); iexact HR
  iintro ⟨Hc, HO⟩
  iapply h
  isplitr; · iexact HR
  isplitr; · iexact Hlev
  isplitl [HB]; · iexact HB
  isplitl [Hc Hat Hback]
  · iapply Hback
    isplitl [Hc]; · iexact Hc
    iexact Hat
  isplitl [Hin]; · iexact Hin
  isplitl [Hr Hrback]
  · iapply Hrback; iexact Hr
  isplitl [Hx]; · iexact Hx
  isplitl [Hi]; · iexact Hi
  isplitl [He]; · iexact He
  isplitl [Ho]; · iexact Ho
  iexists W
  iexact HO

/-- A wait for a copy's source. -/
theorem step_ws {Q : α → sProp 𝕄} (x : X) {n : ℕ} (hev : evs[n]? = some (.ws x)) {sp sp' : Space} {s s' : Shape} {e e' : EltTy}
    {q : DmaSem sig} (hq : q = xsem (x, false)) {src : Memref sig .tc sp' s' e'} {dst : Memref sig .tc sp s e} {hsrc : src.view.WordExact} {hdst : dst.view.WordExact}
    (hN : dst.view.dmaCredit = amtX x)
    {k : PUnit.{1} → Prog (TpuEff nD τ sig (Elt F) Λ₀ .tc) α}
    (h : St m ρ K c (stAt (n + 1)) o ⊢ Wp c (k ⟨⟩) Q) :
    St m ρ K c (stAt n) o ⊢ Wp c (.op (.waitDma2 q src dst hsrc hdst) k) Q := by
  subst hq
  have hok : okWs n x = true := ok_at hev
  rw [stAt_succ hev] at h
  obtain ⟨hu, ho⟩ : used x = true ∧ (stAt n).out x = .sent := by simpa [okWs] using hok
  generalize stAt n = t at h ho
  unfold St at h ⊢
  iintro ⟨#HR, #Hlev, HB, Hout, Hin, Hreg, Hx, Hi, He, Ho, ⟨%W, HO⟩⟩
  ihave Hout' := (turn (outSt m ρ c) t.out x .done) $$ Hout
  icases Hout' with ⟨Hcur, Hback⟩
  rw [ho]
  dsimp only [outSt]
  icases Hcur with ⟨Hc, Hat⟩
  rw [← hN]
  iapply (Rounds.wp_wait_rest_token 𝒱₀ ER (sched m ρ) (c : Thread nD τ) none (κ := K (c, some (x, false)))
      (wpE_waitDma2_eq 𝒱₀ (c : Thread nD τ) none Set.univ) (Set.mem_univ _) () (O := debt c t.out) (W := W) (R := 0) (m := 0) (T := ∅)
      (by rw [Nat.zero_add, hN]; exact (expect_x m ρ c (x, false) hu).symm)) $$ [Hc HO Hat]
  · isplitr; · iapply (inv_at m ρ K (c, some (x, false))); iexact HR
    isplitl [Hc]; · iexact Hc
    isplitl [HO]; · iexact HO
    isplitr; · iapply (mayWait_x c (x, false) t.out fun y _ _ => by rw [lv_send]; exact Nat.lt_trans Nat.zero_lt_one (lev_pos y)); iexact Hlev
    iexact Hat
  iintro ⟨HO, Hat, -, Hpay⟩
  ihave Hp := (Entails.of_eq ((rest_x m ρ c (x, false) hu).trans (show xPay m ρ c (x, false) = regPts m ρ c (srcR x) (shareTokN fullShare (tok x)) from rfl))) $$ Hpay
  iapply h
  isplitr; · iexact HR
  isplitr; · iexact Hlev
  isplitl [HB]; · iexact HB
  isplitl [Hp Hat Hback]
  · iapply Hback
    isplitl [Hp]; · iexact Hp
    iexact Hat
  isplitl [Hin]; · iexact Hin
  isplitl [Hreg]; · iexact Hreg
  isplitl [Hx]; · iexact Hx
  isplitl [Hi]; · iexact Hi
  isplitl [He]; · iexact He
  isplitl [Ho]; · iexact Ho
  iexists (insert (SemLoc.dma (xsem (x, false)), ()) W)
  rw [debt_congr c ((t.step (.ws x)).out) t.out (fun y hy => by
    show Function.update t.out x .done y = _ ↔ _
    by_cases hyx : y = x
    · subst hyx; rw [Function.update_self, ho]; constructor <;> (intro q; cases q)
    · rw [Function.update_of_ne hyx])]
  iexact HO

/-- A wait for an incoming copy. -/
theorem step_wr {Q : α → sProp 𝕄} (x : X) {n : ℕ} (hev : evs[n]? = some (.wr x)) {sp sp' : Space} {s s' : Shape} {e e' : EltTy}
    {q : DmaSem sig} (hq : q = xsem (x, true)) {src : Memref sig .tc sp' s' e'} {dst : Memref sig .tc sp s e} {hsrc : src.view.WordExact} {hdst : dst.view.WordExact}
    (hN : dst.view.dmaCredit = amtX x)
    {k : PUnit.{1} → Prog (TpuEff nD τ sig (Elt F) Λ₀ .tc) α}
    (h : St m ρ K c (stAt (n + 1)) o ⊢ Wp c (k ⟨⟩) Q) :
    St m ρ K c (stAt n) o ⊢ Wp c (.op (.waitDma2 q src dst hsrc hdst) k) Q := by
  subst hq
  have hok : okWr n x = true := ok_at hev
  rw [stAt_succ hev] at h
  obtain ⟨⟨⟨hu, hi⟩, hr⟩, hl⟩ : ((used x = true ∧ (stAt n).inn x = false) ∧ (stAt n).reg (dstR x) = none)
      ∧ ∀ y, used y = true → (stAt n).out y = .idle → lev x < lev y := by
    unfold okWr at hok
    rw [Bool.and_eq_true, Bool.and_eq_true, Bool.and_eq_true, Bool.not_eq_true', decide_eq_true_eq, decide_eq_true_eq] at hok
    exact hok
  generalize stAt n = t at h hi hr hl
  unfold St at h ⊢
  iintro ⟨#HR, #Hlev, HB, Hout, Hin, Hreg, Hx, Hi, He, Ho, ⟨%W, HO⟩⟩
  ihave Hin' := (turn (inSt c) t.inn x true) $$ Hin
  icases Hin' with ⟨Hcur, Hback⟩
  ihave Hreg' := (turn (regSt m ρ c) t.reg (dstR x) (some 0)) $$ Hreg
  icases Hreg' with ⟨-, Hrback⟩
  rw [hi]
  dsimp only [inSt]
  rw [if_pos hu]
  icases Hcur with ⟨Hc, Hat⟩
  rw [← hN]
  iapply (Rounds.wp_wait_rest_token 𝒱₀ ER (sched m ρ) (c : Thread nD τ) none (κ := K (c, some (x, true)))
      (wpE_waitDma2_eq 𝒱₀ (c : Thread nD τ) none Set.univ) (Set.mem_univ _) () (O := debt c t.out) (W := W) (R := 0) (m := 0) (T := ∅)
      (by rw [Nat.zero_add, hN]; exact (expect_x m ρ c (x, true) hu).symm)) $$ [Hc HO Hat]
  · isplitr; · iapply (inv_at m ρ K (c, some (x, true))); iexact HR
    isplitl [Hc]; · iexact Hc
    isplitl [HO]; · iexact HO
    isplitr; · iapply (mayWait_x c (x, true) t.out fun y hy h' => by rw [lv_recv]; exact hl y hy h'); iexact Hlev
    iexact Hat
  iintro ⟨HO, Hat, -, Hpay⟩
  ihave Hp := (Entails.of_eq ((rest_x m ρ c (x, true) hu).trans (show xPay m ρ c (x, true) = regSt m ρ c (dstR x) (some 0) from rfl))) $$ Hpay
  iapply h
  isplitr; · iexact HR
  isplitr; · iexact Hlev
  isplitl [HB]; · iexact HB
  isplitl [Hout]; · iexact Hout
  isplitl [Hat Hback]
  · iapply Hback
    iexact Hat
  isplitl [Hp Hrback]
  · iapply Hrback; iexact Hp
  isplitl [Hx]; · iexact Hx
  isplitl [Hi]; · iexact Hi
  isplitl [He]; · iexact He
  isplitl [Ho]; · iexact Ho
  iexists (insert (SemLoc.dma (xsem (x, true)), ()) W)
  iexact HO

/-- The semaphore and the credit a wait of the body is to name. -/
def isWait (q : DmaSem sig) (N : ℕ) : Ev → Prop
  | .send _ => False
  | .ws x => q = xsem (x, false) ∧ N = amtX x
  | .wr x => q = xsem (x, true) ∧ N = amtX x

/-- A wait. -/
theorem step_wait {Q : α → sProp 𝕄} (e' : Ev) {n : ℕ} {sp sp' : Space} {s s' : Shape} {e e'' : EltTy}
    {q : DmaSem sig} {src : Memref sig .tc sp' s' e''} {dst : Memref sig .tc sp s e} {hsrc : src.view.WordExact} {hdst : dst.view.WordExact}
    {k : PUnit.{1} → Prog (TpuEff nD τ sig (Elt F) Λ₀ .tc) α}
    (h : St m ρ K c (stAt (n + 1)) o ⊢ Wp c (k ⟨⟩) Q)
    (hev : evs[n]? = some e' := by rfl) (hw : isWait q dst.view.dmaCredit e' := by exact ⟨by rfl, by rfl⟩) :
    St m ρ K c (stAt n) o ⊢ Wp c (.op (.waitDma2 q src dst hsrc hdst) k) Q := by
  obtain x | x | x := e'
  · exact hw.elim
  · exact step_ws m ρ K x hev hw.1 hw.2 h
  · exact step_wr m ρ K x hev hw.1 hw.2 h

/-- The start of a weight copy. -/
theorem step_sendW {Q : α → sProp 𝕄} (x : Fin 32) {n : ℕ} {p : Dev nD} (hp : p = peer c (.inl x))
    {ss sj ds dj : ℕ} {inb inb'} {q₁ q₂ : DmaSem sig}
    {hsc : (wV ds dj inb' : Memref sig (Dev.tc p : Thread nD τ).2.kind .vmem S1x256x512 .bf16).view.ref.isScScratch = false}
    {hsrc : (wV ss sj inb).view.WordExact} {hdst : (wV ds dj inb').view.WordExact}
    {hsem : DmaTarget.Typed .vmem (.dma q₂) (.remote (Dev.tc p : Thread nD τ) (wV ds dj inb') (.dma q₁) hsc)}
    {k : PUnit.{1} → Prog (TpuEff nD τ sig (Elt F) Λ₀ .tc) α}
    (h : St m ρ K c (stAt (n + 1)) o ⊢ Wp c (k ⟨⟩) Q)
    (hev : evs[n]? = some (.send (.inl x)) := by rfl)
    (hss : ss = (srcW x).val / 4 := by rfl) (hsj : sj = (srcW x).val % 4 := by rfl) (hds : ds = (dstW x).val / 4 := by rfl) (hdj : dj = (dstW x).val % 4 := by rfl)
    (hq₁ : q₁ = xsem (.inl x, false) := by rfl) (hq₂ : q₂ = xsem (.inl x, true) := by rfl) :
    St m ρ K c (stAt n) o ⊢ Wp c (.op (.enqueueDma (wV ss sj inb) (.remote (Dev.tc p : Thread nD τ) (wV ds dj inb') (.dma q₁) hsc) (.dma q₂) hsrc hdst hsem) k) Q := by
  subst hss hsj hds hdj hq₁ hq₂ hp
  have hok : okSend n (.inl x) = true := ok_at hev
  obtain ⟨⟨hu, -⟩, -⟩ : (used (.inl x) = true ∧ (stAt n).out (.inl x) = .idle) ∧ (stAt n).reg (srcR (.inl x)) = some (tok (.inl x)) := by simpa [okSend] using hok
  refine step_send m ρ K (.inl x) hev (src := wV _ _ inb) (dst := wV _ _ inb') (WB m ρ c) rfl ?_ ?_ ?_ h
  · rw [wV_set]; rfl
  · rw [wV_set]; rfl
  · intro fd
    rw [wV_set]
    exact pointsTo_congr fun i hi => w_landed m ρ c x hu inb inb' fd i hi

/-- A share of a histogram row, named by the row's number. -/
theorem regPts_row (c : Dev nD) (d : Fin 8) (e : Fin 8) (h : back c d = e) (q : PosShare TreeShare) :
    regPts m ρ c (.inr d) q = (hM.view.loc (c : Thread nD τ) ↦[hSet e]{q} HB m ρ : sProp 𝕄) := by subst h; rfl
/-- A whole histogram row with any contents, named by the row's number. -/
theorem regAny_row (c : Dev nD) (d : Fin 8) (e : Fin 8) (h : back c d = e) :
    regAny c (.inr d) = (iprop(∃ f, hM.view.loc (c : Thread nD τ) ↦[hSet e]{fullShare} f) : sProp 𝕄) := by subst h; rfl

/-- The start of a histogram copy. -/
theorem step_sendH {Q : α → sProp 𝕄} (d : Fin 7) {n : ℕ} {p : Dev nD} (hp : p = peer c (.inr d))
    {of : Fin 3 → ℕ} {inb inb'} (hof : of = ![c.val, 0, 0]) {q₁ q₂ : DmaSem sig}
    {hsc : (hV of inb' : Memref sig (Dev.tc p : Thread nD τ).2.kind .vmem S1x32 .f32).view.ref.isScScratch = false}
    {hsrc : (hV of inb).view.WordExact} {hdst : (hV of inb').view.WordExact}
    {hsem : DmaTarget.Typed .vmem (.dma q₂) (.remote (Dev.tc p : Thread nD τ) (hV of inb') (.dma q₁) hsc)}
    {k : PUnit.{1} → Prog (TpuEff nD τ sig (Elt F) Λ₀ .tc) α}
    (h : St m ρ K c (stAt (n + 1)) o ⊢ Wp c (k ⟨⟩) Q)
    (hev : evs[n]? = some (.send (.inr d)) := by rfl)
    (hq₁ : q₁ = xsem (.inr d, false) := by rfl) (hq₂ : q₂ = xsem (.inr d, true) := by rfl) :
    St m ρ K c (stAt n) o ⊢ Wp c (.op (.enqueueDma (hV of inb) (.remote (Dev.tc p : Thread nD τ) (hV of inb') (.dma q₁) hsc) (.dma q₂) hsrc hdst hsem) k) Q := by
  subst hof hq₁ hq₂ hp
  have hb : back (peer c (.inr d)) d.succ = c := back_peer c d
  refine step_send m ρ K (.inr d) hev (src := hV _ inb) (dst := hV _ inb') (HB m ρ) rfl ?_ ?_ ?_ h
  · rw [hV_set]
    exact (regPts_row m ρ c 0 c (back_zero c) _).symm
  · rw [hV_set]
    exact regAny_row _ _ _ hb
  · intro fd
    rw [hV_set]
    exact (pointsTo_congr fun i hi => h_landed m ρ _ inb inb' fd i c rfl hi).trans (regPts_row m ρ _ _ _ hb _).symm

/-- What a load of chunk `j` of slot `s` reads, once it is there. -/
abbrev chunk (c : Dev nD) (s j : ℕ) (inb : ∀ a, (![s, j, 0, 0] : Fin 4 → Nat) a + S1x1x256x512.size a ≤ S8x4x256x512.size a) : Vec F S1x1x256x512 .bf16 :=
  wM.view.readAt (Elt F) (Rect.unit (s := S8x4x256x512) ![s, j, 0, 0] S1x1x256x512.size inb).toLoadRect (WB m ρ c)

/-- The load of a chunk that is there. -/
theorem step_chunk {Q : α → sProp 𝕄} (g : Fin 32) (s : CS) {ss sj : ℕ} {inb}
    {hl} {k : _ → Prog (TpuEff nD τ sig (Elt F) Λ₀ .tc) α}
    (h : St m ρ K c s o ⊢ Wp c (k (chunk m ρ c ss sj inb)) Q)
    (hg : (s.reg (.inl g)).isSome = true := by rfl) (hss : ss = g.val / 4 := by rfl) (hsj : sj = g.val % 4 := by rfl) :
    St m ρ K c s o ⊢ Wp c (.op (.load wM (Rect.unit (s := S8x4x256x512) ![ss, sj, 0, 0] S1x1x256x512.size inb).toLoadRect hl) k) Q := by
  obtain ⟨n, hn⟩ := Option.isSome_iff_exists.mp hg
  unfold St at h ⊢
  iintro ⟨#HR, #Hlev, HB, Hout, Hin, Hreg, Hx, Hi, He, Ho, HO⟩
  ihave Hreg' := (turn (regSt m ρ c) s.reg (.inl g) (some n)) $$ Hreg
  icases Hreg' with ⟨Hr, Hrback⟩
  rw [hn]
  dsimp only [regSt, regPts]
  iapply (wp_load 𝒱₀ (c : Thread nD τ) none Set.univ (m := wM) (S := wSet g) (by
    subst hss hsj; rw [← wV_set g inb]; rw [show (wV (g.val / 4) (g.val % 4) inb).view.set = _ from (View.set_reshape _ _).trans (View.set_slice _ _)]; exact subset_rfl)) $$ Hr
  iintro Hr
  iapply h
  isplitr; · iexact HR
  isplitr; · iexact Hlev
  isplitl [HB]; · iexact HB
  isplitl [Hout]; · iexact Hout
  isplitl [Hin]; · iexact Hin
  isplitl [Hr Hrback]
  · rw [← hn, Function.update_eq_self]
    iapply Hrback; iexact Hr
  isplitl [Hx]; · iexact Hx
  isplitl [Hi]; · iexact Hi
  isplitl [He]; · iexact He
  isplitl [Ho]; · iexact Ho
  iexact HO

/-- Two zero offsets are the zero offsets. -/
theorem zero2 : (![0, 0] : Fin 2 → ℕ) = fun _ => 0 := by decide
/-- Three zero offsets are the zero offsets. -/
theorem zero3 : (![0, 0, 0] : Fin 3 → ℕ) = fun _ => 0 := by decide

/-- Reading all of the output block gives its contents. -/
theorem read_o (inb) (o : (cc0_stg3_0 : Ref sig .tc).ty.Contents (Elt F)) :
    oM.view.readAt (Elt F) (Rect.unit (s := S512x512) ![0, 0] S512x512.size inb).toLoadRect o = o := Memref.readAt_unit_zero (Elt F) cc0_stg3_0 zero2 inb o
/-- Reading all of the token block gives its contents. -/
theorem read_x (inb) (o : (cc0_stg0_0 : Ref sig .tc).ty.Contents (Elt F)) :
    xM.view.readAt (Elt F) (Rect.unit (s := S512x256) ![0, 0] S512x256.size inb).toLoadRect o = o := Memref.readAt_unit_zero (Elt F) cc0_stg0_0 zero2 inb o
/-- Writing all of the output block leaves what was written. -/
theorem write_o (inb) (o w : (cc0_stg3_0 : Ref sig .tc).ty.Contents (Elt F)) :
    (oM.access (Rect.unit (s := S512x512) ![0, 0] S512x512.size inb)).write (Elt F) o w Finset.univ = w := Memref.write_access_unit_zero_univ (Elt F) cc0_stg3_0 zero2 inb o w

/-- The load of the result block. -/
theorem step_loadO {Q : α → sProp 𝕄} (s : CS) {inb} {hl} {k : _ → Prog (TpuEff nD τ sig (Elt F) Λ₀ .tc) α}
    (h : St m ρ K c s o ⊢ Wp c (k o) Q) :
    St m ρ K c s o ⊢ Wp c (.op (.load oM (Rect.unit (s := S512x512) ![0, 0] S512x512.size inb).toLoadRect hl) k) Q := by
  unfold St at h ⊢
  iintro ⟨#HR, #Hlev, HB, Hout, Hin, Hreg, Hx, Hi, He, Ho, HO⟩
  iapply (wp_load 𝒱₀ (c : Thread nD τ) none Set.univ (m := oM) (Finset.subset_univ _)) $$ Ho
  iintro Ho
  rw [read_o]
  iapply h
  isplitr; · iexact HR
  isplitr; · iexact Hlev
  isplitl [HB]; · iexact HB
  isplitl [Hout]; · iexact Hout
  isplitl [Hin]; · iexact Hin
  isplitl [Hreg]; · iexact Hreg
  isplitl [Hx]; · iexact Hx
  isplitl [Hi]; · iexact Hi
  isplitl [He]; · iexact He
  isplitl [Ho]; · iexact Ho
  iexact HO

/-- The load of the token block. -/
theorem step_loadX {Q : α → sProp 𝕄} (s : CS) {inb} {hl} {k : _ → Prog (TpuEff nD τ sig (Elt F) Λ₀ .tc) α}
    (h : St m ρ K c s o ⊢ Wp c (k (xstg m ρ c)) Q) :
    St m ρ K c s o ⊢ Wp c (.op (.load xM (Rect.unit (s := S512x256) ![0, 0] S512x256.size inb).toLoadRect hl) k) Q := by
  unfold St at h ⊢
  iintro ⟨#HR, #Hlev, HB, Hout, Hin, Hreg, Hx, Hi, He, Ho, HO⟩
  iapply (wp_load 𝒱₀ (c : Thread nD τ) none Set.univ (m := xM) (Finset.subset_univ _)) $$ Hx
  iintro Hx
  rw [read_x]
  iapply h
  isplitr; · iexact HR
  isplitr; · iexact Hlev
  isplitl [HB]; · iexact HB
  isplitl [Hout]; · iexact Hout
  isplitl [Hin]; · iexact Hin
  isplitl [Hreg]; · iexact Hreg
  isplitl [Hx]; · iexact Hx
  isplitl [Hi]; · iexact Hi
  isplitl [He]; · iexact He
  isplitl [Ho]; · iexact Ho
  iexact HO

/-- The store of the result block. -/
theorem step_storeO {Q : α → sProp 𝕄} (s : CS) {inb} {w : Vec F S512x512 .f32} {hl hm} {k : _ → Prog (TpuEff nD τ sig (Elt F) Λ₀ .tc) α}
    (h : St m ρ K c s w ⊢ Wp c (k ⟨⟩) Q) :
    St m ρ K c s o ⊢ Wp c (.op (.store oM (Rect.unit (s := S512x512) ![0, 0] S512x512.size inb) w Finset.univ hl hm) k) Q := by
  unfold St at h ⊢
  iintro ⟨#HR, #Hlev, HB, Hout, Hin, Hreg, Hx, Hi, He, Ho, HO⟩
  iapply (wp_store 𝒱₀ (c : Thread nD τ) none Set.univ (m := oM) (r := Rect.unit (s := S512x512) ![0, 0] S512x512.size inb) (Mk := Finset.univ) (Finset.subset_univ _)) $$ Ho
  iintro Ho
  rw [write_o]
  iapply h
  isplitr; · iexact HR
  isplitr; · iexact Hlev
  isplitl [HB]; · iexact HB
  isplitl [Hout]; · iexact Hout
  isplitl [Hin]; · iexact Hin
  isplitl [Hreg]; · iexact Hreg
  isplitl [Hx]; · iexact Hx
  isplitl [Hi]; · iexact Hi
  isplitl [He]; · iexact He
  isplitl [Ho]; · iexact Ho
  iexact HO

/-- Resources that entail each other are equal. -/
theorem both {P P' : sProp 𝕄} (h : P ⊢ P') (h' : P' ⊢ P) : P = P' := equiv_iff.mp ⟨h, h'⟩
/-- A family over a sum is the family over either part. -/
theorem both_sum {I J : Type} [Fintype I] [Fintype J] (Φ : I ⊕ J → sProp 𝕄) :
    bigSep Finset.univ Φ = iprop((bigSep Finset.univ fun a => Φ (.inl a)) ∗ bigSep Finset.univ fun b => Φ (.inr b)) := BI.bigSep_univ_sum Φ

/-- A region held whole is what is left of it after `k` shares, with those shares. -/
theorem reg_toks (c : Dev nD) (r : R) (k : ℕ) : regPts m ρ c r fullShare
    = iprop(regPts m ρ c r (shareDrop fullShare k) ∗ bigSep (Finset.range k) fun i => regPts m ρ c r (shareTokN fullShare i)) := by
  obtain g | d := r
  · have h := Transfers.pointsTo_toks_range (Ix := Unit) (Name := ℕ) (U := UU) (Lvl := ℕ) (ℓ := (c : Thread nD τ).loc cc0_scratch0) (S := wSet g) (f := WB m ρ c) fullShare k
    exact both h.1 h.2
  · have h := Transfers.pointsTo_toks_range (Ix := Unit) (Name := ℕ) (U := UU) (Lvl := ℕ) (ℓ := (c : Thread nD τ).loc cc0_scratch1) (S := hSet (back c d)) (f := HB m ρ) fullShare k
    exact both h.1 h.2

omit [FloatOps F] in
/-- The weight buffer, the histogram buffer, cut into regions. -/
theorem chunks_eq (c : Dev nD) (q : PosShare TreeShare) (f : (cc0_scratch0 : Ref sig .tc).ty.Contents (Elt F)) :
    (((c : Thread nD τ).loc cc0_scratch0) ↦{q} f : sProp 𝕄) = bigSep Finset.univ fun g => ((c : Thread nD τ).loc cc0_scratch0) ↦[wSet g]{q} f :=
  Ring.pointsTo_blocks (Ix := Unit) (Name := ℕ) (U := UU) (Lvl := ℕ) (ℓ := (c : Thread nD τ).loc cc0_scratch0) wSet wSet_disj wSet_cover f
/-- The rows at all distances behind `c` make up the histogram buffer. -/
theorem back_cover (c : Dev nD) : (Finset.univ.biUnion fun d => hSet (back c d)) = Finset.univ := by
  rw [← hSet_cover]
  ext i
  simp only [Finset.mem_biUnion, Finset.mem_univ, true_and]
  exact ⟨fun ⟨d, h⟩ => ⟨_, h⟩, fun ⟨d, h⟩ => by
    obtain ⟨e, rfl⟩ := (Finite.injective_iff_surjective.mp (back_bij c)) d
    exact ⟨e, h⟩⟩
/-- The rows at different distances behind `c` share no index. -/
theorem back_disj (c : Dev nD) (d d' : Fin 8) (h : d ≠ d') : Disjoint (hSet (back c d)) (hSet (back c d')) := hSet_disj _ _ fun q => h (back_bij c q)
omit [FloatOps F] in
/-- The histogram buffer is its rows, by distance behind `c`. -/
theorem rows_eq (c : Dev nD) (q : PosShare TreeShare) (f : (cc0_scratch1 : Ref sig .tc).ty.Contents (Elt F)) :
    (((c : Thread nD τ).loc cc0_scratch1) ↦{q} f : sProp 𝕄) = bigSep Finset.univ fun d => ((c : Thread nD τ).loc cc0_scratch1) ↦[hSet (back c d)]{q} f :=
  Ring.pointsTo_blocks (Ix := Unit) (Name := ℕ) (U := UU) (Lvl := ℕ) (ℓ := (c : Thread nD τ).loc cc0_scratch1) (fun d => hSet (back c d)) (back_disj c) (back_cover c) f

/-- What the rows of a device are left with once a share of all rows is taken out. -/
def rowRest (c : Dev nD) (d : Fin 8) : sProp 𝕄 :=
  if d = 0 then iprop(emp) else bigSep (Finset.range 7) fun i => regPts m ρ c (.inr d) (shareTokN fullShare i)

/-- A row at hand is the share that is read together with the rest of the row. -/
theorem row_split (c : Dev nD) (d : Fin 8) : regSt m ρ c (.inr d) (if d = 0 then some 7 else some 0)
    = iprop(regPts m ρ c (.inr d) (shareDrop fullShare 7) ∗ rowRest m ρ c d) := by
  unfold rowRest
  by_cases h : d = 0
  · rw [if_pos h, if_pos h]
    exact both Laws.sep_emp.2 Laws.sep_emp.1
  · rw [if_neg h, if_neg h]
    exact reg_toks m ρ c (.inr d) 7

/-- A share of the whole histogram buffer comes out of a device's rows, once they are all there. -/
theorem rows_split (c : Dev nD) (s : CS) (hs : ∀ d : Fin 8, s.reg (.inr d) = if d = 0 then some 7 else some 0) :
    (bigSep Finset.univ fun r => regSt m ρ c r (s.reg r)) = iprop((hM.view.loc (c : Thread nD τ) ↦{shareDrop fullShare 7} HB m ρ)
      ∗ (bigSep Finset.univ fun d => rowRest m ρ c d) ∗ bigSep Finset.univ fun g => regSt m ρ c (.inl g) (s.reg (.inl g))) := by
  have h1 : (bigSep Finset.univ fun d : Fin 8 => regSt m ρ c (.inr d) (s.reg (.inr d)))
      = iprop((hM.view.loc (c : Thread nD τ) ↦{shareDrop fullShare 7} HB m ρ) ∗ bigSep Finset.univ fun d => rowRest m ρ c d) := by
    rw [bigSep_congr fun d _ => (congrArg (regSt m ρ c (.inr d)) (hs d)).trans (row_split m ρ c d), bigSep_sep']
    have h2 := rows_eq c (shareDrop fullShare 7) (HB m ρ)
    rw [show (hM.view.loc (c : Thread nD τ) ↦{shareDrop fullShare 7} HB m ρ : sProp 𝕄) = _ from h2]
    rfl
  rw [both_sum, h1]
  refine both ?_ ?_
  · iintro ⟨H1, H2, H3⟩
    isplitl [H2]; · iexact H2
    isplitl [H3]; · iexact H3
    iexact H1
  · iintro ⟨H1, H2, H3⟩
    isplitl [H3]; · iexact H3
    isplitl [H1]; · iexact H1
    iexact H2

/-- Reading all of the histogram buffer gives its contents. -/
theorem read_h (inb) (o : (cc0_scratch1 : Ref sig .tc).ty.Contents (Elt F)) :
    hM.view.readAt (Elt F) (Rect.unit (s := S8x1x32) ![0, 0, 0] S8x1x32.size inb).toLoadRect o = o := Memref.readAt_unit_zero (Elt F) cc0_scratch1 zero3 inb o

/-- The load of the whole histogram buffer, once all rows are there. -/
theorem step_loadH {Q : α → sProp 𝕄} (s : CS) (hs : ∀ d : Fin 8, s.reg (.inr d) = if d = 0 then some 7 else some 0)
    {inb} {hl} {k : _ → Prog (TpuEff nD τ sig (Elt F) Λ₀ .tc) α}
    (h : St m ρ K c s o ⊢ Wp c (k (HB m ρ)) Q) :
    St m ρ K c s o ⊢ Wp c (.op (.load hM (Rect.unit (s := S8x1x32) ![0, 0, 0] S8x1x32.size inb).toLoadRect hl) k) Q := by
  unfold St at h ⊢
  iintro ⟨#HR, #Hlev, HB, Hout, Hin, Hreg, Hx, Hi, He, Ho, HO⟩
  ihave Hreg' := (Entails.of_eq (rows_split m ρ c s hs)) $$ Hreg
  icases Hreg' with ⟨Hh, Hrest⟩
  iapply (wp_load 𝒱₀ (c : Thread nD τ) none Set.univ (m := hM) (Finset.subset_univ _)) $$ Hh
  iintro Hh
  rw [read_h]
  iapply h
  isplitr; · iexact HR
  isplitr; · iexact Hlev
  isplitl [HB]; · iexact HB
  isplitl [Hout]; · iexact Hout
  isplitl [Hin]; · iexact Hin
  isplitl [Hh Hrest]
  · iapply (Entails.of_eq (rows_split m ρ c s hs).symm)
    isplitl [Hh]; · iexact Hh
    iexact Hrest
  isplitl [Hx]; · iexact Hx
  isplitl [Hi]; · iexact Hi
  isplitl [He]; · iexact He
  isplitl [Ho]; · iexact Ho
  iexact HO

end Steps

end Cert.KernelIdealProof

end
-- ==== Proof.KernelIdealParts.lean ====
/-
The parts of the body after the barrier, run step by step.
-/
module

public import proofs.«01_k».proof.Proof.KernelIdealSteps

@[expose] public section

noncomputable section

namespace Cert.KernelIdealProof

open Cert.KernelIdeal Cert.KernelIdeal.Gen Cert.Tables

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option (X × Bool) → ℕ) (c : Dev nD) {o : (cc0_stg3_0 : Ref sig .tc).ty.Contents (Elt F)}

/-- A part of the body at the arguments the call passes. -/
abbrev onArgs {β : Type 1} (f : ∀ (arg0 : Memref sig .tc .vmem S512x256 .f32) (_ : arg0.IsWhole) (arg1 : Memref sig .tc .vmem S512x1 .i32) (_ : arg1.IsWhole)
    (arg2 : Memref sig .tc .vmem S4x256x512 .f32) (_ : arg2.IsWhole) (arg3 : Memref sig .tc .vmem S512x512 .f32) (_ : arg3.IsWhole)
    (arg4 : Memref sig .tc .vmem S8x4x256x512 .bf16) (_ : arg4.IsWhole) (arg5 : Memref sig .tc .vmem S8x1x32 .f32) (_ : arg5.IsWhole)
    (_ _ _ _ : DmaSems sig S16) (_ _ : DmaSems sig S7), β) : β :=
  f xM (Memref.isWhole_whole _) iM (Memref.isWhole_whole _) eM (Memref.isWhole_whole _) oM (Memref.isWhole_whole _) wM (Memref.isWhole_whole _) hM (Memref.isWhole_whole _)
    cc0_scratch2 cc0_scratch3 cc0_scratch4 cc0_scratch5 cc0_scratch6 cc0_scratch7

/-- A program that ends. -/
theorem wp_end {α : Type} {Q : α → sProp 𝕄} {P : sProp 𝕄} {a : α} (h : P ⊢ Q a) : P ⊢ Wp c (.ret a) Q := by
  unfold Wp
  rw [wp_ret]
  iintro H
  imodintro
  iapply h; iexact H

/-- The words of the places the slots' experts belong to. -/
abbrev wup (v2 s : BitVec 32) : BitVec 32 := Scalar.remsi (Scalar.addi (Scalar.subi v2 s) 16#32) 8#32
/-- The word of the device that number of places to the other side. -/
abbrev wdn (v2 s : BitVec 32) : BitVec 32 := Scalar.remsi (Scalar.addi v2 s) 8#32
/-- Chunk `g`, as a load reads it. -/
abbrev ck (g : Fin 32) : Vec F S1x1x256x512 .bf16 := chunk m ρ c (g.val / 4) (g.val % 4) (inbW g)

/-- Piece 4 of the body takes the device from step 2 to step 5. -/
theorem part4 {Q : (PUnit) → sProp 𝕄} (v4 : BitVec 32) (v7 : BitVec 32)
    (h : St m ρ K c (stAt 5) o ⊢ Q ⟨⟩) :
    St m ρ K c (stAt 2) o ⊢ Wp c (onArgs k0_part4 c v4 v7) Q := by
  simp only [onArgs, k0_part4_eq_skeleton, k0_part4_skel, Prog.lift, Prog.bind_op, Prog.bind_ret, Prog.pure_eq_ret]
  refine step_sendW m ρ K 1 (Fin.ext (k0_dev10_eq c)) ?_
  refine step_sendW m ρ K 17 (Fin.ext (k0_dev11_eq c)) ?_
  refine step_sendW m ρ K 2 (Fin.ext (k0_dev12_eq c)) ?_
  exact wp_end c h

/-- Piece 5 of the body takes the device from step 5 to step 7. -/
theorem part5 {Q : (PUnit) → sProp 𝕄} (v4 : BitVec 32) (v7 : BitVec 32)
    (h : St m ρ K c (stAt 7) o ⊢ Q ⟨⟩) :
    St m ρ K c (stAt 5) o ⊢ Wp c (onArgs k0_part5 c v4 v7) Q := by
  simp only [onArgs, k0_part5_eq_skeleton, k0_part5_skel, Prog.lift, Prog.bind_op, Prog.bind_ret, Prog.pure_eq_ret]
  refine step_sendW m ρ K 18 (Fin.ext (k0_dev13_eq c)) ?_
  refine step_sendW m ρ K 3 (Fin.ext (k0_dev14_eq c)) ?_
  exact wp_end c h

/-- Piece 6 of the body takes the device from step 7 to step 10. -/
theorem part6 {Q : (Σ' (v137 : BitVec 32) (v149 : BitVec 32) (v161 : BitVec 32), BitVec 32) → sProp 𝕄} (v2 : BitVec 32)
    (h : ∀ r, (St m ρ K c (stAt 10) o ⊢ Q r)) :
    St m ρ K c (stAt 7) o ⊢ Wp c (onArgs k0_part6 c v2) Q := by
  simp only [onArgs, k0_part6_eq_skeleton, k0_part6_skel, Prog.lift, Prog.bind_op, Prog.bind_ret, Prog.pure_eq_ret]
  refine step_sendW m ρ K 19 (Fin.ext (k0_dev15_eq c)) ?_
  refine step_sendH m ρ K 0 (Fin.ext (k0_dev16_eq c)) (k0_off2_eq c) ?_
  refine step_sendH m ρ K 1 (Fin.ext (k0_dev17_eq c)) (k0_off2_eq c) ?_
  exact wp_end c (h _)

/-- Piece 7 of the body takes the device from step 10 to step 12. -/
theorem part7 {Q : (Σ' (v173 : BitVec 32), BitVec 32) → sProp 𝕄} (v2 : BitVec 32) (v161 : BitVec 32) (c1_i32_164 : BitVec 32)
    (h : ∀ r, (St m ρ K c (stAt 12) o ⊢ Q r)) :
    St m ρ K c (stAt 10) o ⊢ Wp c (onArgs k0_part7 c v2 v161 c1_i32_164) Q := by
  simp only [onArgs, k0_part7_eq_skeleton, k0_part7_skel, Prog.lift, Prog.bind_op, Prog.bind_ret, Prog.pure_eq_ret]
  refine step_sendH m ρ K 2 (Fin.ext (k0_dev18_eq c)) (k0_off2_eq c) ?_
  refine step_sendH m ρ K 3 (Fin.ext (k0_dev19_eq c)) (k0_off2_eq c) ?_
  exact wp_end c (h _)

/-- Piece 8 of the body takes the device from step 12 to step 15. -/
theorem part8 {Q : (Σ' (v197 : BitVec 32) (v209 : BitVec 32), FVec F S512x1 .f32) → sProp 𝕄} (v2 : BitVec 32) (v14 : FVec F S512x32 .f32)
    (h : ∀ r, r.2.2 = k0_pay5 v14 → (St m ρ K c (stAt 15) o ⊢ Q r)) :
    St m ρ K c (stAt 12) o ⊢ Wp c (onArgs k0_part8 c v2 v14) Q := by
  simp only [onArgs, k0_part8_eq_skeleton, k0_part8_skel, Prog.lift, Prog.bind_op, Prog.bind_ret, Prog.pure_eq_ret]
  refine step_sendH m ρ K 4 (Fin.ext (k0_dev20_eq c)) (k0_off2_eq c) ?_
  refine step_sendH m ρ K 5 (Fin.ext (k0_dev21_eq c)) (k0_off2_eq c) ?_
  refine step_sendH m ρ K 6 (Fin.ext (k0_dev22_eq c)) (k0_off2_eq c) ?_
  exact wp_end c (h _ rfl)

/-- Piece 9 of the body takes the device from step 15 to step 18. -/
theorem part9 {Q : (PUnit) → sProp 𝕄} (v137 : BitVec 32) (v149 : BitVec 32)
    (h : St m ρ K c (stAt 18) o ⊢ Q ⟨⟩) :
    St m ρ K c (stAt 15) o ⊢ Wp c (onArgs k0_part9 c v137 v149) Q := by
  simp only [onArgs, k0_part9_eq_skeleton, k0_part9_skel, Prog.lift, Prog.bind_op, Prog.bind_ret, Prog.pure_eq_ret]
  refine step_wait m ρ K (.ws (.inr 0)) ?_
  refine step_wait m ρ K (.wr (.inr 0)) ?_
  refine step_wait m ρ K (.ws (.inr 1)) ?_
  exact wp_end c h

/-- Piece 10 of the body takes the device from step 18 to step 22. -/
theorem part10 {Q : (PUnit) → sProp 𝕄} (v161 : BitVec 32) (v173 : BitVec 32)
    (h : St m ρ K c (stAt 22) o ⊢ Q ⟨⟩) :
    St m ρ K c (stAt 18) o ⊢ Wp c (onArgs k0_part10 c v161 v173) Q := by
  simp only [onArgs, k0_part10_eq_skeleton, k0_part10_skel, Prog.lift, Prog.bind_op, Prog.bind_ret, Prog.pure_eq_ret]
  refine step_wait m ρ K (.wr (.inr 1)) ?_
  refine step_wait m ρ K (.ws (.inr 2)) ?_
  refine step_wait m ρ K (.wr (.inr 2)) ?_
  refine step_wait m ρ K (.ws (.inr 3)) ?_
  exact wp_end c h

/-- Piece 11 of the body takes the device from step 22 to step 26. -/
theorem part11 {Q : (PUnit) → sProp 𝕄} (v185 : BitVec 32) (v197 : BitVec 32)
    (h : St m ρ K c (stAt 26) o ⊢ Q ⟨⟩) :
    St m ρ K c (stAt 22) o ⊢ Wp c (onArgs k0_part11 c v185 v197) Q := by
  simp only [onArgs, k0_part11_eq_skeleton, k0_part11_skel, Prog.lift, Prog.bind_op, Prog.bind_ret, Prog.pure_eq_ret]
  refine step_wait m ρ K (.wr (.inr 3)) ?_
  refine step_wait m ρ K (.ws (.inr 4)) ?_
  refine step_wait m ρ K (.wr (.inr 4)) ?_
  refine step_wait m ρ K (.ws (.inr 5)) ?_
  exact wp_end c h

/-- Piece 12 of the body takes the device from step 26 to step 29. -/
theorem part12 {Q : (IVec S512x1 1) → sProp 𝕄} (v2 : BitVec 32) (v14 : FVec F S512x32 .f32) (v209 : BitVec 32) (v228 : FVec F S512x1 .f32)
    (h : St m ρ K c (stAt 29) o ⊢ Q (k0_pay6 v2 v14 v228 (HB m ρ))) :
    St m ρ K c (stAt 26) o ⊢ Wp c (onArgs k0_part12 c v2 v14 v209 v228) Q := by
  simp only [onArgs, k0_part12_eq_skeleton, k0_part12_skel, Prog.lift, Prog.bind_op, Prog.bind_ret, Prog.pure_eq_ret]
  refine step_wait m ρ K (.wr (.inr 5)) ?_
  refine step_wait m ρ K (.ws (.inr 6)) ?_
  refine step_wait m ρ K (.wr (.inr 6)) ?_
  refine step_loadH m ρ K _ (by decide) ?_
  exact wp_end c h

/-- Piece 13 of the body computes, and writes the output block, between step 29 and the next. -/
theorem part13 {Q : (Σ' (v347 : FVec F S512x256 .bf16) (v352 : BitVec 32) (v379 : FVec F S512x512 .f32), BitVec 32) → sProp 𝕄} (v2 : BitVec 32) (v9 : IVec S512x1 32) (v344 : IVec S512x1 1)
    (h : St m ρ K c (stAt 29) (k0_pay8) ⊢ Q ⟨k0_pay7 (xstg m ρ c), (wup v2 0#32), k0_pay9 v2 v9 v344 (xstg m ρ c) (ck m ρ c 0) (ck m ρ c 1), Scalar.muli (wup v2 0#32) 4#32⟩) :
    St m ρ K c (stAt 29) o ⊢ Wp c (onArgs k0_part13 v2 v9 v344) Q := by
  simp only [onArgs, k0_part13_eq_skeleton, k0_part13_skel, Prog.lift, Prog.bind_op, Prog.bind_ret, Prog.pure_eq_ret]
  refine step_loadX m ρ K _ ?_
  refine step_loadO m ρ K _ ?_
  refine step_storeO m ρ K _ ?_
  refine step_chunk m ρ K 0 _ ?_
  refine step_chunk m ρ K 1 _ ?_
  exact wp_end c h

/-- Piece 14 of the body computes, and writes the output block, between step 29 and the next. -/
theorem part14 {Q : (PUnit) → sProp 𝕄} (v9 : IVec S512x1 32) (v344 : IVec S512x1 1) (v347 : FVec F S512x256 .bf16) (v352 : BitVec 32) (v379 : FVec F S512x512 .f32) (v380 : BitVec 32)
    (h : St m ρ K c (stAt 29) (k0_pay10 v9 v344 v347 v352 v379 v380 (ck m ρ c 2) (ck m ρ c 3) o) ⊢ Q ⟨⟩) :
    St m ρ K c (stAt 29) o ⊢ Wp c (onArgs k0_part14 v9 v344 v347 v352 v379 v380) Q := by
  simp only [onArgs, k0_part14_eq_skeleton, k0_part14_skel, Prog.lift, Prog.bind_op, Prog.bind_ret, Prog.pure_eq_ret]
  refine step_chunk m ρ K 2 _ ?_
  refine step_chunk m ρ K 3 _ ?_
  refine step_loadO m ρ K _ ?_
  refine step_loadO m ρ K _ ?_
  refine step_storeO m ρ K _ ?_
  exact wp_end c h

/-- Piece 15 of the body takes the device from step 29 to step 32. -/
theorem part15 {Q : (PUnit) → sProp 𝕄} (v4 : BitVec 32)
    (h : St m ρ K c (stAt 32) o ⊢ Q ⟨⟩) :
    St m ρ K c (stAt 29) o ⊢ Wp c (onArgs k0_part15 c v4) Q := by
  simp only [onArgs, k0_part15_eq_skeleton, k0_part15_skel, Prog.lift, Prog.bind_op, Prog.bind_ret, Prog.pure_eq_ret]
  refine step_wait m ρ K (.ws (.inl 0)) ?_
  refine step_wait m ρ K (.wr (.inl 0)) ?_
  refine step_sendW m ρ K 4 (Fin.ext (k0_dev23_eq c)) ?_
  exact wp_end c h

/-- Piece 16 of the body takes the device from step 32 to step 35. -/
theorem part16 {Q : (PUnit) → sProp 𝕄} (v7 : BitVec 32)
    (h : St m ρ K c (stAt 35) o ⊢ Q ⟨⟩) :
    St m ρ K c (stAt 32) o ⊢ Wp c (onArgs k0_part16 c v7) Q := by
  simp only [onArgs, k0_part16_eq_skeleton, k0_part16_skel, Prog.lift, Prog.bind_op, Prog.bind_ret, Prog.pure_eq_ret]
  refine step_wait m ρ K (.ws (.inl 16)) ?_
  refine step_wait m ρ K (.wr (.inl 16)) ?_
  refine step_sendW m ρ K 20 (Fin.ext (k0_dev24_eq c)) ?_
  exact wp_end c h

/-- Piece 17 of the body takes the device from step 35 to step 38. -/
theorem part17 {Q : (PUnit) → sProp 𝕄} (v4 : BitVec 32)
    (h : St m ρ K c (stAt 38) o ⊢ Q ⟨⟩) :
    St m ρ K c (stAt 35) o ⊢ Wp c (onArgs k0_part17 c v4) Q := by
  simp only [onArgs, k0_part17_eq_skeleton, k0_part17_skel, Prog.lift, Prog.bind_op, Prog.bind_ret, Prog.pure_eq_ret]
  refine step_wait m ρ K (.ws (.inl 1)) ?_
  refine step_wait m ρ K (.wr (.inl 1)) ?_
  refine step_sendW m ρ K 5 (Fin.ext (k0_dev25_eq c)) ?_
  exact wp_end c h

/-- Piece 18 of the body takes the device from step 38 to step 41. -/
theorem part18 {Q : (PUnit) → sProp 𝕄} (v7 : BitVec 32)
    (h : St m ρ K c (stAt 41) o ⊢ Q ⟨⟩) :
    St m ρ K c (stAt 38) o ⊢ Wp c (onArgs k0_part18 c v7) Q := by
  simp only [onArgs, k0_part18_eq_skeleton, k0_part18_skel, Prog.lift, Prog.bind_op, Prog.bind_ret, Prog.pure_eq_ret]
  refine step_wait m ρ K (.ws (.inl 17)) ?_
  refine step_wait m ρ K (.wr (.inl 17)) ?_
  refine step_sendW m ρ K 21 (Fin.ext (k0_dev26_eq c)) ?_
  exact wp_end c h

/-- Piece 19 of the body takes the device from step 41 to step 44. -/
theorem part19 {Q : (PUnit) → sProp 𝕄} (v4 : BitVec 32)
    (h : St m ρ K c (stAt 44) o ⊢ Q ⟨⟩) :
    St m ρ K c (stAt 41) o ⊢ Wp c (onArgs k0_part19 c v4) Q := by
  simp only [onArgs, k0_part19_eq_skeleton, k0_part19_skel, Prog.lift, Prog.bind_op, Prog.bind_ret, Prog.pure_eq_ret]
  refine step_wait m ρ K (.ws (.inl 2)) ?_
  refine step_wait m ρ K (.wr (.inl 2)) ?_
  refine step_sendW m ρ K 6 (Fin.ext (k0_dev27_eq c)) ?_
  exact wp_end c h

/-- Piece 20 of the body takes the device from step 44 to step 46. -/
theorem part20 {Q : (PUnit) → sProp 𝕄} (v7 : BitVec 32)
    (h : St m ρ K c (stAt 46) o ⊢ Q ⟨⟩) :
    St m ρ K c (stAt 44) o ⊢ Wp c (onArgs k0_part20 v7) Q := by
  simp only [onArgs, k0_part20_eq_skeleton, k0_part20_skel, Prog.lift, Prog.bind_op, Prog.bind_ret, Prog.pure_eq_ret]
  refine step_wait m ρ K (.ws (.inl 18)) ?_
  refine step_wait m ρ K (.wr (.inl 18)) ?_
  exact wp_end c h

/-- Piece 21 of the body takes the device from step 46 to step 49. -/
theorem part21 {Q : (PUnit) → sProp 𝕄} (v4 : BitVec 32)
    (h : St m ρ K c (stAt 49) o ⊢ Q ⟨⟩) :
    St m ρ K c (stAt 46) o ⊢ Wp c (onArgs k0_part21 c v4) Q := by
  simp only [onArgs, k0_part21_eq_skeleton, k0_part21_skel, Prog.lift, Prog.bind_op, Prog.bind_ret, Prog.pure_eq_ret]
  refine step_sendW m ρ K 22 (Fin.ext (k0_dev28_eq c)) ?_
  refine step_wait m ρ K (.ws (.inl 3)) ?_
  refine step_wait m ρ K (.wr (.inl 3)) ?_
  exact wp_end c h

/-- Piece 22 of the body takes the device from step 49 to step 52. -/
theorem part22 {Q : (PUnit) → sProp 𝕄} (v7 : BitVec 32)
    (h : St m ρ K c (stAt 52) o ⊢ Q ⟨⟩) :
    St m ρ K c (stAt 49) o ⊢ Wp c (onArgs k0_part22 c v7) Q := by
  simp only [onArgs, k0_part22_eq_skeleton, k0_part22_skel, Prog.lift, Prog.bind_op, Prog.bind_ret, Prog.pure_eq_ret]
  refine step_sendW m ρ K 7 (Fin.ext (k0_dev29_eq c)) ?_
  refine step_wait m ρ K (.ws (.inl 19)) ?_
  refine step_wait m ρ K (.wr (.inl 19)) ?_
  exact wp_end c h

/-- Piece 23 of the body takes the device from step 52 to step 53. -/
theorem part23 {Q : (Σ' (v606 : BitVec 32) (v633 : FVec F S512x512 .f32), IVec S512x1 32) → sProp 𝕄} (v2 : BitVec 32) (v9 : IVec S512x1 32) (v344 : IVec S512x1 1) (v347 : FVec F S512x256 .bf16)
    (h : St m ρ K c (stAt 53) o ⊢ Q ⟨(wup v2 1#32), k0_pay11 v2 v9 v344 v347 (ck m ρ c 4) (ck m ρ c 5), k0_pay12 v2 v9 v344⟩) :
    St m ρ K c (stAt 52) o ⊢ Wp c (onArgs k0_part23 c v2 v9 v344 v347) Q := by
  simp only [onArgs, k0_part23_eq_skeleton, k0_part23_skel, Prog.lift, Prog.bind_op, Prog.bind_ret, Prog.pure_eq_ret]
  refine step_sendW m ρ K 23 (Fin.ext (k0_dev30_eq c)) ?_
  refine step_chunk m ρ K 4 _ ?_
  refine step_chunk m ρ K 5 _ ?_
  exact wp_end c h

/-- Piece 24 of the body computes, and writes the output block, between step 53 and the next. -/
theorem part24 {Q : (Σ' (v667 : BitVec 32), FVec F S512x256 .bf16) → sProp 𝕄} (v2 : BitVec 32) (v9 : IVec S512x1 32) (v344 : IVec S512x1 1) (v347 : FVec F S512x256 .bf16) (v606 : BitVec 32) (v633 : FVec F S512x512 .f32) (v639 : IVec S512x1 32)
    (h : St m ρ K c (stAt 53) (k0_pay13 v9 v344 v347 v606 v633 v639 (ck m ρ c 6) (ck m ρ c 7) o) ⊢ Q ⟨(wdn v2 1#32), k0_pay14 v2 v9 v344 v347⟩) :
    St m ρ K c (stAt 53) o ⊢ Wp c (onArgs k0_part24 v2 v9 v344 v347 v606 v633 v639) Q := by
  simp only [onArgs, k0_part24_eq_skeleton, k0_part24_skel, Prog.lift, Prog.bind_op, Prog.bind_ret, Prog.pure_eq_ret]
  refine step_chunk m ρ K 6 _ ?_
  refine step_chunk m ρ K 7 _ ?_
  refine step_loadO m ρ K _ ?_
  refine step_loadO m ρ K _ ?_
  refine step_storeO m ρ K _ ?_
  exact wp_end c h

/-- Piece 25 of the body computes between step 53 and the next. -/
theorem part25 {Q : (Σ' (v708 : FVec F S512x512 .f32), FVec F S512x256 .bf16) → sProp 𝕄} (v9 : IVec S512x1 32) (v344 : IVec S512x1 1) (v347 : FVec F S512x256 .bf16) (v667 : BitVec 32) (v677 : FVec F S512x256 .bf16)
    (h : St m ρ K c (stAt 53) o ⊢ Q ⟨k0_pay15 v9 v344 v347 v667 v677 (ck m ρ c 20) (ck m ρ c 21) (ck m ρ c 22), k0_pay16 v9 v344 v667⟩) :
    St m ρ K c (stAt 53) o ⊢ Wp c (onArgs k0_part25 v9 v344 v347 v667 v677) Q := by
  simp only [onArgs, k0_part25_eq_skeleton, k0_part25_skel, Prog.lift, Prog.bind_op, Prog.bind_ret, Prog.pure_eq_ret]
  refine step_chunk m ρ K 20 _ ?_
  refine step_chunk m ρ K 21 _ ?_
  refine step_chunk m ρ K 22 _ ?_
  exact wp_end c h

/-- Piece 26 of the body takes the device from step 53 to step 55 and writes the output block. -/
theorem part26 {Q : (PUnit) → sProp 𝕄} (v4 : BitVec 32) (v347 : FVec F S512x256 .bf16) (v708 : FVec F S512x512 .f32) (v717 : FVec F S512x256 .bf16)
    (h : St m ρ K c (stAt 55) (k0_pay17 v347 v708 v717 (ck m ρ c 23) o) ⊢ Q ⟨⟩) :
    St m ρ K c (stAt 53) o ⊢ Wp c (onArgs k0_part26 v4 v347 v708 v717) Q := by
  simp only [onArgs, k0_part26_eq_skeleton, k0_part26_skel, Prog.lift, Prog.bind_op, Prog.bind_ret, Prog.pure_eq_ret]
  refine step_chunk m ρ K 23 _ ?_
  refine step_loadO m ρ K _ ?_
  refine step_loadO m ρ K _ ?_
  refine step_storeO m ρ K _ ?_
  refine step_wait m ρ K (.ws (.inl 4)) ?_
  refine step_wait m ρ K (.wr (.inl 4)) ?_
  exact wp_end c h

/-- Piece 27 of the body takes the device from step 55 to step 58. -/
theorem part27 {Q : (PUnit) → sProp 𝕄} (v4 : BitVec 32) (v7 : BitVec 32)
    (h : St m ρ K c (stAt 58) o ⊢ Q ⟨⟩) :
    St m ρ K c (stAt 55) o ⊢ Wp c (onArgs k0_part27 c v4 v7) Q := by
  simp only [onArgs, k0_part27_eq_skeleton, k0_part27_skel, Prog.lift, Prog.bind_op, Prog.bind_ret, Prog.pure_eq_ret]
  refine step_sendW m ρ K 8 (Fin.ext (k0_dev31_eq c)) ?_
  refine step_wait m ρ K (.ws (.inl 20)) ?_
  refine step_wait m ρ K (.wr (.inl 20)) ?_
  exact wp_end c h

/-- Piece 28 of the body takes the device from step 58 to step 60. -/
theorem part28 {Q : (PUnit) → sProp 𝕄} (v4 : BitVec 32) (v7 : BitVec 32)
    (h : St m ρ K c (stAt 60) o ⊢ Q ⟨⟩) :
    St m ρ K c (stAt 58) o ⊢ Wp c (onArgs k0_part28 c v4 v7) Q := by
  simp only [onArgs, k0_part28_eq_skeleton, k0_part28_skel, Prog.lift, Prog.bind_op, Prog.bind_ret, Prog.pure_eq_ret]
  refine step_sendW m ρ K 24 (Fin.ext (k0_dev32_eq c)) ?_
  refine step_wait m ρ K (.ws (.inl 5)) ?_
  exact wp_end c h

/-- Piece 29 of the body takes the device from step 60 to step 63. -/
theorem part29 {Q : (PUnit) → sProp 𝕄} (v4 : BitVec 32) (v7 : BitVec 32)
    (h : St m ρ K c (stAt 63) o ⊢ Q ⟨⟩) :
    St m ρ K c (stAt 60) o ⊢ Wp c (onArgs k0_part29 c v4 v7) Q := by
  simp only [onArgs, k0_part29_eq_skeleton, k0_part29_skel, Prog.lift, Prog.bind_op, Prog.bind_ret, Prog.pure_eq_ret]
  refine step_wait m ρ K (.wr (.inl 5)) ?_
  refine step_sendW m ρ K 9 (Fin.ext (k0_dev33_eq c)) ?_
  refine step_wait m ρ K (.ws (.inl 21)) ?_
  exact wp_end c h

/-- Piece 30 of the body takes the device from step 63 to step 66. -/
theorem part30 {Q : (PUnit) → sProp 𝕄} (v4 : BitVec 32) (v7 : BitVec 32)
    (h : St m ρ K c (stAt 66) o ⊢ Q ⟨⟩) :
    St m ρ K c (stAt 63) o ⊢ Wp c (onArgs k0_part30 c v4 v7) Q := by
  simp only [onArgs, k0_part30_eq_skeleton, k0_part30_skel, Prog.lift, Prog.bind_op, Prog.bind_ret, Prog.pure_eq_ret]
  refine step_wait m ρ K (.wr (.inl 21)) ?_
  refine step_sendW m ρ K 25 (Fin.ext (k0_dev34_eq c)) ?_
  refine step_wait m ρ K (.ws (.inl 6)) ?_
  exact wp_end c h

/-- Piece 31 of the body takes the device from step 66 to step 69. -/
theorem part31 {Q : (PUnit) → sProp 𝕄} (v4 : BitVec 32) (v7 : BitVec 32)
    (h : St m ρ K c (stAt 69) o ⊢ Q ⟨⟩) :
    St m ρ K c (stAt 66) o ⊢ Wp c (onArgs k0_part31 c v4 v7) Q := by
  simp only [onArgs, k0_part31_eq_skeleton, k0_part31_skel, Prog.lift, Prog.bind_op, Prog.bind_ret, Prog.pure_eq_ret]
  refine step_wait m ρ K (.wr (.inl 6)) ?_
  refine step_sendW m ρ K 10 (Fin.ext (k0_dev35_eq c)) ?_
  refine step_wait m ρ K (.ws (.inl 22)) ?_
  exact wp_end c h

/-- Piece 32 of the body takes the device from step 69 to step 72. -/
theorem part32 {Q : (PUnit) → sProp 𝕄} (v4 : BitVec 32) (v7 : BitVec 32)
    (h : St m ρ K c (stAt 72) o ⊢ Q ⟨⟩) :
    St m ρ K c (stAt 69) o ⊢ Wp c (onArgs k0_part32 c v4 v7) Q := by
  simp only [onArgs, k0_part32_eq_skeleton, k0_part32_skel, Prog.lift, Prog.bind_op, Prog.bind_ret, Prog.pure_eq_ret]
  refine step_wait m ρ K (.wr (.inl 22)) ?_
  refine step_sendW m ρ K 26 (Fin.ext (k0_dev36_eq c)) ?_
  refine step_wait m ρ K (.ws (.inl 7)) ?_
  exact wp_end c h

/-- Piece 33 of the body takes the device from step 72 to step 75. -/
theorem part33 {Q : (PUnit) → sProp 𝕄} (v4 : BitVec 32) (v7 : BitVec 32)
    (h : St m ρ K c (stAt 75) o ⊢ Q ⟨⟩) :
    St m ρ K c (stAt 72) o ⊢ Wp c (onArgs k0_part33 c v4 v7) Q := by
  simp only [onArgs, k0_part33_eq_skeleton, k0_part33_skel, Prog.lift, Prog.bind_op, Prog.bind_ret, Prog.pure_eq_ret]
  refine step_wait m ρ K (.wr (.inl 7)) ?_
  refine step_sendW m ρ K 11 (Fin.ext (k0_dev37_eq c)) ?_
  refine step_wait m ρ K (.ws (.inl 23)) ?_
  exact wp_end c h

/-- Piece 34 of the body takes the device from step 75 to step 77. -/
theorem part34 {Q : (Σ' (v921 : BitVec 32) (v931 : FVec F S512x256 .bf16) (v933 : FVec F S256x512 .bf16), FVec F S512x512 .f32) → sProp 𝕄} (v2 : BitVec 32) (v7 : BitVec 32) (v9 : IVec S512x1 32) (v344 : IVec S512x1 1) (v347 : FVec F S512x256 .bf16)
    (h : St m ρ K c (stAt 77) o ⊢ Q ⟨(wup v2 2#32), k0_pay18 v2 v9 v344 v347, k0_pay19 (ck m ρ c 8), constant S512x512 .f32 0x00000000#32⟩) :
    St m ρ K c (stAt 75) o ⊢ Wp c (onArgs k0_part34 c v2 v7 v9 v344 v347) Q := by
  simp only [onArgs, k0_part34_eq_skeleton, k0_part34_skel, Prog.lift, Prog.bind_op, Prog.bind_ret, Prog.pure_eq_ret]
  refine step_wait m ρ K (.wr (.inl 23)) ?_
  refine step_sendW m ρ K 27 (Fin.ext (k0_dev38_eq c)) ?_
  refine step_chunk m ρ K 8 _ ?_
  exact wp_end c h

/-- Piece 35 of the body computes between step 77 and the next. -/
theorem part35 {Q : (Σ' (v962 : FVec F S512x512 .f32) (v972 : FVec F S512x256 .bf16), Vec F S1x1x256x512 .bf16) → sProp 𝕄} (v9 : IVec S512x1 32) (v344 : IVec S512x1 1) (v347 : FVec F S512x256 .bf16) (v921 : BitVec 32) (v931 : FVec F S512x256 .bf16) (v933 : FVec F S256x512 .bf16) (cst_993 : FVec F S512x512 .f32)
    (h : St m ρ K c (stAt 77) o ⊢ Q ⟨k0_pay20 v9 v344 v347 v921 v931 v933 cst_993 (ck m ρ c 9) (ck m ρ c 10), k0_pay21 v9 v344 v347 v921, (ck m ρ c 11)⟩) :
    St m ρ K c (stAt 77) o ⊢ Wp c (onArgs k0_part35 v9 v344 v347 v921 v931 v933 cst_993) Q := by
  simp only [onArgs, k0_part35_eq_skeleton, k0_part35_skel, Prog.lift, Prog.bind_op, Prog.bind_ret, Prog.pure_eq_ret]
  refine step_chunk m ρ K 9 _ ?_
  refine step_chunk m ρ K 10 _ ?_
  refine step_chunk m ρ K 11 _ ?_
  exact wp_end c h

/-- Piece 36 of the body computes, and writes the output block, between step 77 and the next. -/
theorem part36 {Q : (Σ' (v982 : BitVec 32) (v1009 : FVec F S512x512 .f32), BitVec 32) → sProp 𝕄} (v2 : BitVec 32) (v9 : IVec S512x1 32) (v344 : IVec S512x1 1) (v347 : FVec F S512x256 .bf16) (v962 : FVec F S512x512 .f32) (v972 : FVec F S512x256 .bf16) (v973 : Vec F S1x1x256x512 .bf16)
    (h : St m ρ K c (stAt 77) (k0_pay22 v962 v972 v973 o) ⊢ Q ⟨(wdn v2 2#32), k0_pay23 v2 v9 v344 v347 (ck m ρ c 24) (ck m ρ c 25), Scalar.muli (wdn v2 2#32) 4#32⟩) :
    St m ρ K c (stAt 77) o ⊢ Wp c (onArgs k0_part36 v2 v9 v344 v347 v962 v972 v973) Q := by
  simp only [onArgs, k0_part36_eq_skeleton, k0_part36_skel, Prog.lift, Prog.bind_op, Prog.bind_ret, Prog.pure_eq_ret]
  refine step_loadO m ρ K _ ?_
  refine step_loadO m ρ K _ ?_
  refine step_storeO m ρ K _ ?_
  refine step_chunk m ρ K 24 _ ?_
  refine step_chunk m ρ K 25 _ ?_
  exact wp_end c h

/-- Piece 37 of the body computes, and writes the output block, between step 77 and the next. -/
theorem part37 {Q : (PUnit) → sProp 𝕄} (v9 : IVec S512x1 32) (v344 : IVec S512x1 1) (v347 : FVec F S512x256 .bf16) (v982 : BitVec 32) (v1009 : FVec F S512x512 .f32) (v1010 : BitVec 32)
    (h : St m ρ K c (stAt 77) (k0_pay24 v9 v344 v347 v982 v1009 v1010 (ck m ρ c 26) (ck m ρ c 27) o) ⊢ Q ⟨⟩) :
    St m ρ K c (stAt 77) o ⊢ Wp c (onArgs k0_part37 v9 v344 v347 v982 v1009 v1010) Q := by
  simp only [onArgs, k0_part37_eq_skeleton, k0_part37_skel, Prog.lift, Prog.bind_op, Prog.bind_ret, Prog.pure_eq_ret]
  refine step_chunk m ρ K 26 _ ?_
  refine step_chunk m ρ K 27 _ ?_
  refine step_loadO m ρ K _ ?_
  refine step_loadO m ρ K _ ?_
  refine step_storeO m ρ K _ ?_
  exact wp_end c h

/-- Piece 38 of the body takes the device from step 77 to step 80. -/
theorem part38 {Q : (PUnit) → sProp 𝕄} (v4 : BitVec 32)
    (h : St m ρ K c (stAt 80) o ⊢ Q ⟨⟩) :
    St m ρ K c (stAt 77) o ⊢ Wp c (onArgs k0_part38 c v4) Q := by
  simp only [onArgs, k0_part38_eq_skeleton, k0_part38_skel, Prog.lift, Prog.bind_op, Prog.bind_ret, Prog.pure_eq_ret]
  refine step_wait m ρ K (.ws (.inl 8)) ?_
  refine step_wait m ρ K (.wr (.inl 8)) ?_
  refine step_sendW m ρ K 12 (Fin.ext (k0_dev39_eq c)) ?_
  exact wp_end c h

/-- Piece 39 of the body takes the device from step 80 to step 83. -/
theorem part39 {Q : (PUnit) → sProp 𝕄} (v4 : BitVec 32) (v7 : BitVec 32)
    (h : St m ρ K c (stAt 83) o ⊢ Q ⟨⟩) :
    St m ρ K c (stAt 80) o ⊢ Wp c (onArgs k0_part39 v4 v7) Q := by
  simp only [onArgs, k0_part39_eq_skeleton, k0_part39_skel, Prog.lift, Prog.bind_op, Prog.bind_ret, Prog.pure_eq_ret]
  refine step_wait m ρ K (.ws (.inl 24)) ?_
  refine step_wait m ρ K (.wr (.inl 24)) ?_
  refine step_wait m ρ K (.ws (.inl 9)) ?_
  exact wp_end c h

/-- Piece 40 of the body takes the device from step 83 to step 86. -/
theorem part40 {Q : (PUnit) → sProp 𝕄} (v4 : BitVec 32) (v7 : BitVec 32)
    (h : St m ρ K c (stAt 86) o ⊢ Q ⟨⟩) :
    St m ρ K c (stAt 83) o ⊢ Wp c (onArgs k0_part40 c v4 v7) Q := by
  simp only [onArgs, k0_part40_eq_skeleton, k0_part40_skel, Prog.lift, Prog.bind_op, Prog.bind_ret, Prog.pure_eq_ret]
  refine step_wait m ρ K (.wr (.inl 9)) ?_
  refine step_sendW m ρ K 13 (Fin.ext (k0_dev40_eq c)) ?_
  refine step_wait m ρ K (.ws (.inl 25)) ?_
  exact wp_end c h

/-- Piece 41 of the body takes the device from step 86 to step 89. -/
theorem part41 {Q : (PUnit) → sProp 𝕄} (v4 : BitVec 32)
    (h : St m ρ K c (stAt 89) o ⊢ Q ⟨⟩) :
    St m ρ K c (stAt 86) o ⊢ Wp c (onArgs k0_part41 v4) Q := by
  simp only [onArgs, k0_part41_eq_skeleton, k0_part41_skel, Prog.lift, Prog.bind_op, Prog.bind_ret, Prog.pure_eq_ret]
  refine step_wait m ρ K (.wr (.inl 25)) ?_
  refine step_wait m ρ K (.ws (.inl 10)) ?_
  refine step_wait m ρ K (.wr (.inl 10)) ?_
  exact wp_end c h

/-- Piece 42 of the body takes the device from step 89 to step 92. -/
theorem part42 {Q : (PUnit) → sProp 𝕄} (v7 : BitVec 32)
    (h : St m ρ K c (stAt 92) o ⊢ Q ⟨⟩) :
    St m ρ K c (stAt 89) o ⊢ Wp c (onArgs k0_part42 c v7) Q := by
  simp only [onArgs, k0_part42_eq_skeleton, k0_part42_skel, Prog.lift, Prog.bind_op, Prog.bind_ret, Prog.pure_eq_ret]
  refine step_wait m ρ K (.ws (.inl 26)) ?_
  refine step_wait m ρ K (.wr (.inl 26)) ?_
  refine step_sendW m ρ K 30 (Fin.ext (k0_dev41_eq c)) ?_
  exact wp_end c h

/-- Piece 43 of the body takes the device from step 92 to step 95. -/
theorem part43 {Q : (PUnit) → sProp 𝕄} (v4 : BitVec 32) (v7 : BitVec 32)
    (h : St m ρ K c (stAt 95) o ⊢ Q ⟨⟩) :
    St m ρ K c (stAt 92) o ⊢ Wp c (onArgs k0_part43 v4 v7) Q := by
  simp only [onArgs, k0_part43_eq_skeleton, k0_part43_skel, Prog.lift, Prog.bind_op, Prog.bind_ret, Prog.pure_eq_ret]
  refine step_wait m ρ K (.ws (.inl 11)) ?_
  refine step_wait m ρ K (.wr (.inl 11)) ?_
  refine step_wait m ρ K (.ws (.inl 27)) ?_
  exact wp_end c h

/-- Piece 44 of the body takes the device from step 95 to step 97. -/
theorem part44 {Q : (Σ' (v1196 : BitVec 32) (v1209 : FVec F S512x512 .f32), BitVec 32) → sProp 𝕄} (v2 : BitVec 32) (v7 : BitVec 32) (v9 : IVec S512x1 32) (v344 : IVec S512x1 1) (v347 : FVec F S512x256 .bf16)
    (h : St m ρ K c (stAt 97) o ⊢ Q ⟨(wup v2 3#32), k0_pay25 v2 v9 v344 v347 (ck m ρ c 12), 4#32⟩) :
    St m ρ K c (stAt 95) o ⊢ Wp c (onArgs k0_part44 c v2 v7 v9 v344 v347) Q := by
  simp only [onArgs, k0_part44_eq_skeleton, k0_part44_skel, Prog.lift, Prog.bind_op, Prog.bind_ret, Prog.pure_eq_ret]
  refine step_wait m ρ K (.wr (.inl 27)) ?_
  refine step_sendW m ρ K 31 (Fin.ext (k0_dev42_eq c)) ?_
  refine step_chunk m ρ K 12 _ ?_
  exact wp_end c h

/-- Piece 45 of the body computes between step 97 and the next. -/
theorem part45 {Q : (Σ' (v1237 : FVec F S512x512 .f32) (v1247 : FVec F S512x256 .bf16) (v1249 : FVec F S256x512 .bf16), FVec F S512x512 .f32) → sProp 𝕄} (v9 : IVec S512x1 32) (v344 : IVec S512x1 1) (v347 : FVec F S512x256 .bf16) (v1196 : BitVec 32) (v1209 : FVec F S512x512 .f32) (c4_i32_1290 : BitVec 32)
    (h : St m ρ K c (stAt 97) o ⊢ Q ⟨k0_pay26 v9 v344 v347 v1196 v1209 c4_i32_1290 (ck m ρ c 13) (ck m ρ c 14), k0_pay27 v9 v344 v347 v1196, k0_pay28 (ck m ρ c 15), constant S512x512 .f32 0x00000000#32⟩) :
    St m ρ K c (stAt 97) o ⊢ Wp c (onArgs k0_part45 v9 v344 v347 v1196 v1209 c4_i32_1290) Q := by
  simp only [onArgs, k0_part45_eq_skeleton, k0_part45_skel, Prog.lift, Prog.bind_op, Prog.bind_ret, Prog.pure_eq_ret]
  refine step_chunk m ρ K 13 _ ?_
  refine step_chunk m ρ K 14 _ ?_
  refine step_chunk m ρ K 15 _ ?_
  exact wp_end c h

/-- Piece 46 of the body computes, and writes the output block, between step 97 and the next. -/
theorem part46 {Q : (Σ' (v1257 : BitVec 32) (v1284 : FVec F S512x512 .f32), BitVec 32) → sProp 𝕄} (v2 : BitVec 32) (v9 : IVec S512x1 32) (v344 : IVec S512x1 1) (v347 : FVec F S512x256 .bf16) (v1237 : FVec F S512x512 .f32) (v1247 : FVec F S512x256 .bf16) (v1249 : FVec F S256x512 .bf16) (cst_1310 : FVec F S512x512 .f32)
    (h : St m ρ K c (stAt 97) (k0_pay29 v1237 v1247 v1249 cst_1310 o) ⊢ Q ⟨(wdn v2 3#32), k0_pay30 v2 v9 v344 v347 (ck m ρ c 28) (ck m ρ c 29), Scalar.addi (Scalar.muli (wdn v2 3#32) 4#32) 2#32⟩) :
    St m ρ K c (stAt 97) o ⊢ Wp c (onArgs k0_part46 v2 v9 v344 v347 v1237 v1247 v1249 cst_1310) Q := by
  simp only [onArgs, k0_part46_eq_skeleton, k0_part46_skel, Prog.lift, Prog.bind_op, Prog.bind_ret, Prog.pure_eq_ret]
  refine step_loadO m ρ K _ ?_
  refine step_loadO m ρ K _ ?_
  refine step_storeO m ρ K _ ?_
  refine step_chunk m ρ K 28 _ ?_
  refine step_chunk m ρ K 29 _ ?_
  exact wp_end c h

/-- Piece 47 of the body computes, and writes the output block, between step 97 and the next. -/
theorem part47 {Q : (PUnit) → sProp 𝕄} (v9 : IVec S512x1 32) (v344 : IVec S512x1 1) (v347 : FVec F S512x256 .bf16) (v1257 : BitVec 32) (v1284 : FVec F S512x512 .f32) (v1286 : BitVec 32)
    (h : St m ρ K c (stAt 97) (k0_pay31 v9 v344 v347 v1257 v1284 v1286 (ck m ρ c 30) (ck m ρ c 31) o) ⊢ Q ⟨⟩) :
    St m ρ K c (stAt 97) o ⊢ Wp c (onArgs k0_part47 v9 v344 v347 v1257 v1284 v1286) Q := by
  simp only [onArgs, k0_part47_eq_skeleton, k0_part47_skel, Prog.lift, Prog.bind_op, Prog.bind_ret, Prog.pure_eq_ret]
  refine step_chunk m ρ K 30 _ ?_
  refine step_chunk m ρ K 31 _ ?_
  refine step_loadO m ρ K _ ?_
  refine step_loadO m ρ K _ ?_
  refine step_storeO m ρ K _ ?_
  exact wp_end c h

/-- Piece 48 of the body takes the device from step 97 to step 100. -/
theorem part48 {Q : (PUnit) → sProp 𝕄} (v4 : BitVec 32)
    (h : St m ρ K c (stAt 100) o ⊢ Q ⟨⟩) :
    St m ρ K c (stAt 97) o ⊢ Wp c (onArgs k0_part48 v4) Q := by
  simp only [onArgs, k0_part48_eq_skeleton, k0_part48_skel, Prog.lift, Prog.bind_op, Prog.bind_ret, Prog.pure_eq_ret]
  refine step_wait m ρ K (.ws (.inl 12)) ?_
  refine step_wait m ρ K (.wr (.inl 12)) ?_
  refine step_wait m ρ K (.ws (.inl 13)) ?_
  exact wp_end c h

/-- Piece 49 of the body takes the device from step 100 to step 103. -/
theorem part49 {Q : (PUnit) → sProp 𝕄} (v7 : BitVec 32)
    (h : St m ρ K c (stAt 103) o ⊢ Q ⟨⟩) :
    St m ρ K c (stAt 100) o ⊢ Wp c (onArgs k0_part49 v7) Q := by
  simp only [onArgs, k0_part49_eq_skeleton, k0_part49_skel, Prog.lift, Prog.bind_op, Prog.bind_ret, Prog.pure_eq_ret]
  refine step_wait m ρ K (.wr (.inl 13)) ?_
  refine step_wait m ρ K (.ws (.inl 30)) ?_
  refine step_wait m ρ K (.wr (.inl 30)) ?_
  exact wp_end c h

/-- Piece 50 of the body takes the device from step 103 to step 105. -/
theorem part50 {Q : (Σ' (v1375 : BitVec 32) (v1388 : FVec F S512x512 .f32), FVec F S512x256 .bf16) → sProp 𝕄} (v2 : BitVec 32) (v7 : BitVec 32) (v9 : IVec S512x1 32) (v344 : IVec S512x1 1) (v347 : FVec F S512x256 .bf16)
    (h : St m ρ K c (stAt 105) o ⊢ Q ⟨(wup v2 4#32), k0_pay32 v2 v9 v344 v347 (ck m ρ c 16), k0_pay33 v2 v9 v344⟩) :
    St m ρ K c (stAt 103) o ⊢ Wp c (onArgs k0_part50 v2 v7 v9 v344 v347) Q := by
  simp only [onArgs, k0_part50_eq_skeleton, k0_part50_skel, Prog.lift, Prog.bind_op, Prog.bind_ret, Prog.pure_eq_ret]
  refine step_wait m ρ K (.ws (.inl 31)) ?_
  refine step_wait m ρ K (.wr (.inl 31)) ?_
  refine step_chunk m ρ K 16 _ ?_
  exact wp_end c h

/-- Piece 51 of the body computes between step 105 and the next. -/
theorem part51 {Q : (FVec F S512x512 .f32) → sProp 𝕄} (v9 : IVec S512x1 32) (v344 : IVec S512x1 1) (v347 : FVec F S512x256 .bf16) (v1375 : BitVec 32) (v1388 : FVec F S512x512 .f32) (v1397 : FVec F S512x256 .bf16)
    (h : St m ρ K c (stAt 105) o ⊢ Q (k0_pay34 v9 v344 v347 v1375 v1388 v1397 (ck m ρ c 17) (ck m ρ c 18) (ck m ρ c 19) o)) :
    St m ρ K c (stAt 105) o ⊢ Wp c (onArgs k0_part51 v9 v344 v347 v1375 v1388 v1397) Q := by
  simp only [onArgs, k0_part51_eq_skeleton, k0_part51_skel, Prog.lift, Prog.bind_op, Prog.bind_ret, Prog.pure_eq_ret]
  refine step_chunk m ρ K 17 _ ?_
  refine step_chunk m ρ K 18 _ ?_
  refine step_chunk m ρ K 19 _ ?_
  refine step_loadO m ρ K _ ?_
  refine step_loadO m ρ K _ ?_
  exact wp_end c h

end Cert.KernelIdealProof

end
-- ==== Proof.KernelIdealEntry.lean ====
/-
The body up to the barrier: the own experts' weights and the own histogram stored, the buffers cut into regions,
the seven signals and the wait.
-/
module

public import proofs.«01_k».proof.Proof.KernelIdealParts

@[expose] public section

noncomputable section

namespace Cert.KernelIdealProof

open Cert.KernelIdeal Cert.KernelIdeal.Gen Cert.Tables

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option (X × Bool) → ℕ) (c : Dev nD) {o : (cc0_stg3_0 : Ref sig .tc).ty.Contents (Elt F)}

/-! ### Two parts in a row -/

omit [FloatOps F] in
/-- If each member of a family gives the matching member of another, the one family gives the other. -/
theorem mono {I : Type} [Fintype I] {Φ Ψ : I → sProp 𝕄} (h : ∀ i, Φ i ⊢ Ψ i) : bigSep Finset.univ Φ ⊢ bigSep Finset.univ Ψ := bigSep_mono fun i _ => h i

/-- A program in two parts is proved by its first part, then its second. -/
theorem seq {α β : Type} {Q : β → sProp 𝕄} {P : sProp 𝕄} {p : Prog (TpuEff nD τ sig (Elt F) Λ₀ .tc) α} {k : α → Prog (TpuEff nD τ sig (Elt F) Λ₀ .tc) β}
    (h : P ⊢ Wp c p fun a => Wp c (k a) Q) : P ⊢ Wp c (p >>= k) Q := by
  unfold Wp at h ⊢
  rw [wp_bind]; exact h

/-! ### The signals -/

/-- Whether device `c` has signalled device `p` once it has signalled the `j` devices after it. -/
def told (c : Dev nD) (j : ℕ) (p : Dev nD) : Bool := decide ((p.val + 8 - c.val) % 8 ≤ j)

/-- One more barrier signal tells one more device. -/
theorem told_succ (c : Dev nD) (j : Fin 7) : told c (j.val + 1) = Function.update (told c j.val) ⟨(c.val + (j.val + 1)) % 8, Nat.mod_lt _ (by decide)⟩ true := by
  funext p; revert c j p; decide
/-- The device next to be signalled has not been told yet. -/
theorem told_no (c : Dev nD) (j : Fin 7) : told c j.val ⟨(c.val + (j.val + 1)) % 8, Nat.mod_lt _ (by decide)⟩ = false := by
  revert c j; decide
/-- After seven signals every device has been told. -/
theorem told_all (c p : Dev nD) : told c 7 p = true := by revert c p; decide
/-- Before the first signal only the device itself counts as told. -/
theorem told_zero (c p : Dev nD) : told c 0 p = decide (p = c) := by revert c p; decide
/-- No device signals itself. -/
theorem told_ne (c : Dev nD) (j : Fin 7) : c ≠ (⟨(c.val + (j.val + 1)) % 8, Nat.mod_lt _ (by decide)⟩ : Dev nD) := by
  revert c j; decide

/-- What device `c` holds for its signal to device `p`. -/
def sigSt (c p : Dev nD) : Bool → sProp 𝕄
  | true => iprop(emp)
  | false => iprop(dutyTok ER (barCell p) 0 (c : Fin 8) ∗ barPay p c)

/-- What device `c` owes for its signals. -/
def tell (f : Dev nD → Bool) : CellTallies nD τ sig Unit := ∑ p : Dev nD, if f p = true then 0 else tallyAt (barCell p) () 1

/-- Telling a device takes one signal off what is owed to the barriers. -/
theorem tell_turn (f : Dev nD → Bool) (p : Dev nD) (h : f p = false) : tell f = tell (Function.update f p true) + tallyAt (barCell p) () 1 := by
  unfold tell
  rw [← Finset.sum_erase_add _ _ (Finset.mem_univ p), ← Finset.sum_erase_add _ (fun q => if Function.update f p true q = true then (0 : CellTallies nD τ sig Unit) else tallyAt (barCell q) () 1) (Finset.mem_univ p)]
  rw [if_neg (by rw [h]; exact Bool.false_ne_true), Function.update_self, if_pos rfl, add_zero]
  congr 1
  refine Finset.sum_congr rfl fun y hy => ?_
  rw [Function.update_of_ne (Finset.ne_of_mem_erase hy)]

/-- What a device owes when the body begins. -/
def O₀ (c : Dev nD) : CellTallies nD τ sig Unit := tell (told c 0) + debt c start.out

/-- Device `c` with `j` signals sent; `Y` is everything else it holds. -/
def Tell (Y : sProp 𝕄) (j : ℕ) : sProp 𝕄 :=
  iprop(records m ρ K ∗ levAts L lv ∗ atPos ER (barCell c) 0 ∅ 0 ∗ cred (tallyAt (barCell c) () 7)
    ∗ (bigSep Finset.univ fun p => sigSt c p (told c j p)) ∗ Y
    ∗ ∃ W, owes (c : Thread nD τ) (tell (told c j) + debt c start.out) W)

/-- One barrier signal moves the telling on by one. -/
theorem step_signal {α : Type} {Q : α → sProp 𝕄} (Y : sProp 𝕄) {w : ℤ} (j : Fin 7) {p : Dev nD} (hp : p = ⟨(c.val + (j.val + 1)) % 8, Nat.mod_lt _ (by decide)⟩)
    {k : PUnit.{1} → Prog (TpuEff nD τ sig (Elt F) Λ₀ .tc) α} (h : Tell m ρ K c Y (j.val + 1) ⊢ Wp c (k ⟨⟩) Q) (hw : w = ((1 : ℕ) : ℤ) := by rfl) :
    Tell m ρ K c Y j.val ⊢ Wp c (.op (.semSignal (p : Thread nD τ) barS w) k) Q := by
  subst hw
  have hne := told_ne c j
  have hno := told_no c j
  have hs := told_succ c j
  rw [← hp] at hne hno hs
  unfold Tell at h ⊢
  rw [hs] at h
  have hO : tell (told c j.val) + debt c start.out = (tell (Function.update (told c j.val) p true) + debt c start.out) + tallyAt (barCell p) () 1 := by
    rw [tell_turn _ p hno, add_right_comm]
  rw [hO]
  have key := fun W => Rounds.wp_signal (defs := defs₀ (F := F)) (Γ := PendingWaitsCtx.empty) 𝒱₀ ER (sched m ρ) (c : Thread nD τ) none (dst := (p : Thread nD τ)) (κ := K (p, none)) (r := 0) (k := k) (Q := Q)
      (d := (c : Fin 8)) (k' := 1) (by rw [duties_bar]; exact Finset.mem_erase.mpr ⟨hne, Finset.mem_univ _⟩) (amount_bar m ρ p c) () (tell (Function.update (told c j.val) p true) + debt c start.out) rfl (W := W) (Es := Set.univ)
  rw [payload_bar] at key
  iintro ⟨#HR, #Hlev, HB, Hc, Hs, HY, ⟨%W, HO⟩⟩
  ihave Hs' := (turn (sigSt c) (told c j.val) p true) $$ Hs
  icases Hs' with ⟨H1, Hback⟩
  rw [hno]
  dsimp only [sigSt]
  icases H1 with ⟨Ht, Hp⟩
  ihave #Hi := (inv_at m ρ K (p, none)) $$ HR
  ihave #Hr := (reached_at m ρ K (p, none)) $$ HR
  iapply (key W) $$ [HO Ht Hp]
  · isplitr; · iexact Hi
    isplitl [HO]; · iexact HO
    isplitl [Ht]; · iexact Ht
    isplitl [Hp]; · iexact Hp
    iexact Hr
  iintro HO
  iapply h
  isplitr; · iexact HR
  isplitr; · iexact Hlev
  isplitl [HB]; · iexact HB
  isplitl [Hc]; · iexact Hc
  isplitl [Hback]
  · iapply Hback; iempintro
  isplitl [HY]; · iexact HY
  iexists W; iexact HO

/-- A device may wait on its barrier semaphore while owing only copies. -/
theorem mayWait_bar (o : X → OS) : (levAts L lv : sProp 𝕄) ⊢ MayWait (c : Thread nD τ) (.reg barS) () (debt c o) :=
  MayOwe.of_cut (L := L) (lev := lv) 1 (fun q hq => by rw [Finset.mem_singleton.mp hq, L_tc]; exact Finset.mem_singleton_self _)
    (fun g u hg => by obtain ⟨y, -, -, rfl⟩ := debt_pos hg; rw [L_tc]; exact Finset.mem_singleton_self _)
    (fun q hq => by rw [Finset.mem_singleton.mp hq]; exact le_refl _)
    (fun g u hg => by obtain ⟨y, hu, hy, rfl⟩ := debt_pos hg; exact (lev_pos y).trans_eq (lv_recv _ y).symm)

/-- When every device has been told nothing is owed to the barriers. -/
theorem tell_done : tell (told c 7) = 0 := Finset.sum_eq_zero fun p _ => if_pos (told_all c p)

/-- The wait for the seven signals. -/
theorem step_bar {α : Type} {Q : α → sProp 𝕄} (Y : sProp 𝕄) {w : ℤ} {k : PUnit.{1} → Prog (TpuEff nD τ sig (Elt F) Λ₀ .tc) α}
    (h : iprop(records m ρ K ∗ levAts L lv ∗ atPos ER (barCell c) 1 ∅ 0
      ∗ (bigSep Finset.univ fun x : X => if used x = true then regAny (peer c x) (dstR x) else iprop(emp)) ∗ Y
      ∗ ∃ W, owes (c : Thread nD τ) (debt c start.out) W) ⊢ Wp c (k ⟨⟩) Q) (hw : w = ((7 : ℕ) : ℤ) := by rfl) :
    Tell m ρ K c Y 7 ⊢ Wp c (.op (.semWait barS w) k) Q := by
  subst hw
  unfold Tell
  rw [tell_done, zero_add]
  have key := fun W => Rounds.wp_wait_rest_token (defs := defs₀ (F := F)) 𝒱₀ ER (sched m ρ) (c : Thread nD τ) none (κ := K (c, none)) (k := k) (Q := Q)
      (wpE_semWait_eq 𝒱₀ (c : Thread nD τ) none Set.univ) (Set.mem_univ _) () (sm := .reg barS) (k' := 7) (O := debt c start.out) (W := W) (R := 0) (m := 0) (T := ∅)
      (by rw [expect_bar])
  rw [rest_bar] at key
  iintro ⟨#HR, #Hlev, HB, Hc, Hs, HY, ⟨%W, HO⟩⟩
  iclear Hs
  ihave #Hi := (inv_at m ρ K (c, none)) $$ HR
  iapply (key W) $$ [HB Hc HO]
  · isplitr; · iexact Hi
    isplitl [Hc]; · iexact Hc
    isplitl [HO]; · iexact HO
    isplitr; · iapply (mayWait_bar c); iexact Hlev
    iexact HB
  iintro ⟨HO, HB, -, Hp⟩
  iapply h
  isplitr; · iexact HR
  isplitr; · iexact Hlev
  isplitl [HB]; · iexact HB
  isplitl [Hp]; · iexact Hp
  isplitl [HY]; · iexact HY
  iexists _; iexact HO

/-! ### Cutting the buffers -/

/-- After the store of the own experts' weights, the own chunks hold what they are to hold. -/
theorem own_w (f : (cc0_scratch0 : Ref sig .tc).ty.Contents (Elt F)) (inb) (i : S8x4x256x512.Idx) (hi : (i 0).val = 0) :
    ((wM : Memref sig .tc .vmem S8x4x256x512 .bf16).access (Rect.unit (s := S8x4x256x512) ![0, 0, 0, 0] S1x4x256x512.size inb) : View sig .tc _ _ _).write (Elt F) f
      (k0_pay4 (estg m ρ c)) Finset.univ i = WB m ρ c i := by
  have he : ((wM : Memref sig .tc .vmem S8x4x256x512 .bf16).access (Rect.unit (s := S8x4x256x512) ![0, 0, 0, 0] S1x4x256x512.size inb) : View sig .tc _ _ _).emb (inSlot i) = i := by
    funext a
    refine Fin.ext ?_
    show (![0, 0, 0, 0] : Fin 4 → ℕ) a + 1 * (inSlot i a).val = (i a).val
    fin_cases a
    · exact hi.symm
    · show 0 + 1 * (i 1).val = (i 1).val; omega
    · show 0 + 1 * (i 2).val = (i 2).val; omega
    · show 0 + 1 * (i 3).val = (i 3).val; omega
  have h := View.write_emb_of_mem (Val := Elt F) (v := ((wM : Memref sig .tc .vmem S8x4x256x512 .bf16).access (Rect.unit (s := S8x4x256x512) ![0, 0, 0, 0] S1x4x256x512.size inb) : View sig .tc _ _ _))
    f (k0_pay4 (estg m ρ c)) (Finset.mem_univ (inSlot i))
  rw [he] at h
  have hd : slotDev c (i 0) = c := by rw [show (i 0 : Fin 8) = (0 : Fin 8) from Fin.ext hi]; exact slotDev_zero c
  show _ = k0_pay4 (estg m ρ (slotDev c (i 0))) (inSlot i)
  rw [hd]
  exact h

/-- After the store of the own histogram, its row holds it. -/
theorem own_h (f : (cc0_scratch1 : Ref sig .tc).ty.Contents (Elt F)) {of : Fin 3 → ℕ} (hof : of = ![c.val, 0, 0]) (inb) (i : S8x1x32.Idx) (hi : i 0 = c) :
    ((hM : Memref sig .tc .vmem S8x1x32 .f32).access (Rect.unit (s := S8x1x32) of S1x1x32.size inb) : View sig .tc _ _ _).write (Elt F) f
      (k0_pay3 (istg m ρ c)) Finset.univ i = HB m ρ i := by
  subst hof
  have he : ((hM : Memref sig .tc .vmem S8x1x32 .f32).access (Rect.unit (s := S8x1x32) ![c.val, 0, 0] S1x1x32.size inb) : View sig .tc _ _ _).emb (inRow i) = i := by
    funext a
    refine Fin.ext ?_
    show (![c.val, 0, 0] : Fin 3 → ℕ) a + 1 * (inRow i a).val = (i a).val
    fin_cases a
    · show c.val + 1 * 0 = (i 0).val; rw [hi]; omega
    · have : (i 1).val < 1 := (i 1).isLt
      show 0 + 1 * 0 = (i 1).val; omega
    · show 0 + 1 * (i 2).val = (i 2).val; omega
  have h := View.write_emb_of_mem (Val := Elt F) (v := ((hM : Memref sig .tc .vmem S8x1x32 .f32).access (Rect.unit (s := S8x1x32) ![c.val, 0, 0] S1x1x32.size inb) : View sig .tc _ _ _))
    f (k0_pay3 (istg m ρ c)) (Finset.mem_univ (inRow i))
  rw [he] at h
  show _ = k0_pay3 (istg m ρ (i 0)) (inRow i)
  rw [hi]
  exact h

/-- A region that is not the device's own at first. -/
def lent (c : Dev nD) (r : R) : sProp 𝕄 := if start.reg r = none then regAny c r else iprop(emp)

/-- The regions not at hand after the barrier are the targets of the copies that are made. -/
theorem lent_image : (Finset.univ.filter fun r : R => start.reg r = none) = (Finset.univ.filter fun x : X => used x = true).image dstR := by decide
/-- Different copies have different targets. -/
theorem dstR_inj : Set.InjOn dstR ((Finset.univ.filter fun x : X => used x = true : Finset X) : Set X) := by
  have h : ∀ x y : X, used x = true → used y = true → dstR x = dstR y → x = y := by decide
  intro x hx y hy
  exact h x y (by simpa using hx) (by simpa using hy)

/-- The regions not the device's own, handed to the devices whose copies write them. -/
theorem lent_bar : (bigSep Finset.univ fun r => lent c r : sProp 𝕄) = bigSep Finset.univ fun p : Dev nD => barPay p c := by
  have h1 : (bigSep Finset.univ fun r => lent c r : sProp 𝕄) = bigSep Finset.univ fun x : X => if used x = true then regAny c (dstR x) else iprop(emp) := by
    unfold lent
    refine (BI.bigSep_filter Finset.univ (fun r : R => start.reg r = none) fun r => regAny c r).symm.trans ?_
    rw [lent_image, bigSep_image_of_injOn dstR_inj]
    exact BI.bigSep_filter Finset.univ (fun x : X => used x = true) fun x => regAny c (dstR x)
  rw [h1, sorted_by (from' c)]
  refine bigSep_congr fun p _ => ?_
  unfold barPay
  refine bigSep_congr fun x _ => ?_
  by_cases hp : from' c x = p
  · rw [if_pos hp]
    by_cases hu : used x = true
    · rw [if_pos hu, if_pos ⟨hu, (peer_eq_iff p c x).mpr hp⟩]
    · rw [if_neg hu, if_neg fun h => hu h.1]
  · rw [if_neg hp, if_neg fun h => hp ((peer_eq_iff p c x).mp h.2)]

/-- Taking no share off leaves the full share. -/
theorem shareDrop_zero : shareDrop fullShare 0 = fullShare := rfl

/-- The two buffers, cut into the device's own regions and the others. -/
theorem cut (fw : (cc0_scratch0 : Ref sig .tc).ty.Contents (Elt F)) (fh : (cc0_scratch1 : Ref sig .tc).ty.Contents (Elt F))
    (hw : ∀ i : S8x4x256x512.Idx, (i 0).val = 0 → fw i = WB m ρ c i) (hh : ∀ i : S8x1x32.Idx, i 0 = c → fh i = HB m ρ i) :
    iprop(stg c cc0_scratch0 fw ∗ stg c cc0_scratch1 fh)
      ⊢ iprop((bigSep Finset.univ fun r => regSt m ρ c r (start.reg r)) ∗ bigSep Finset.univ fun p : Dev nD => barPay p c) := by
  rw [← lent_bar, ← bigSep_sep', both_sum]
  have h1 : stg c cc0_scratch0 fw ⊢ bigSep Finset.univ fun g : Fin 32 => iprop(regSt m ρ c (.inl g) (start.reg (.inl g)) ∗ lent c (.inl g)) := by
    unfold stg
    rw [chunks_eq]
    refine mono fun g => ?_
    by_cases hg : g.val < 4
    · have e : start.reg (.inl g) = some 0 := if_pos hg
      unfold lent
      rw [e, if_neg (by simp)]
      have e' : regSt m ρ c (.inl g) (some 0) = (((c : Thread nD τ).loc cc0_scratch0) ↦[wSet g]{fullShare} fw) :=
        (show regSt m ρ c (.inl g) (some 0) = (((c : Thread nD τ).loc cc0_scratch0) ↦[wSet g]{fullShare} WB m ρ c) from rfl).trans
          (pointsTo_congr fun i hi => (hw i (by rw [((mem_wSet g i).mp hi).1]; omega)).symm)
      rw [e']
      iintro H; isplitl [H]; · iexact H
      iempintro
    · have e : start.reg (.inl g) = none := if_neg hg
      unfold lent
      rw [e, if_pos rfl]
      dsimp only [regAny]
      iintro H; isplitr; · iempintro
      iexists fw; iexact H
  have h2 : stg c cc0_scratch1 fh ⊢ bigSep Finset.univ fun d : Fin 8 => iprop(regSt m ρ c (.inr d) (start.reg (.inr d)) ∗ lent c (.inr d)) := by
    unfold stg
    rw [rows_eq]
    refine mono fun d => ?_
    by_cases hd : d = 0
    · have e : start.reg (.inr d) = some 0 := by subst hd; rfl
      unfold lent
      rw [e, if_neg (by simp)]
      have e' : regSt m ρ c (.inr d) (some 0) = (((c : Thread nD τ).loc cc0_scratch1) ↦[hSet (back c d)]{fullShare} fh) :=
        (show regSt m ρ c (.inr d) (some 0) = (((c : Thread nD τ).loc cc0_scratch1) ↦[hSet (back c d)]{fullShare} HB m ρ) from rfl).trans
          (pointsTo_congr fun i hi => (hh i (by rw [(mem_hSet _ i).mp hi, hd]; exact back_zero c)).symm)
      rw [e']
      iintro H; isplitl [H]; · iexact H
      iempintro
    · have e : start.reg (.inr d) = none := if_neg fun h => hd (Fin.ext h)
      unfold lent
      rw [e, if_pos rfl]
      dsimp only [regAny]
      iintro H; isplitr; · iempintro
      iexists fh; iexact H
  iintro ⟨Hw, Hh⟩
  isplitl [Hw]
  · iapply h1; iexact Hw
  · iapply h2; iexact Hh

/-! ### Parts 1 to 3 -/

/-- What a device holds through the barrier: its places at its copies' semaphores, its duties, its credits, its own regions, its blocks. -/
def Held (o : (cc0_stg3_0 : Ref sig .tc).ty.Contents (Elt F)) : sProp 𝕄 :=
  iprop((bigSep Finset.univ fun x : X => iprop(atPos ER (xCell c (x, false)) 0 ∅ 0 ∗ atPos ER (xCell c (x, true)) 0 ∅ 0))
    ∗ (bigSep Finset.univ fun x : X => if used x = true then iprop(dutyTok ER (xCell c (x, false)) 0 0 ∗ dutyTok ER (xCell (peer c x) (x, true)) 0 0) else iprop(emp))
    ∗ (bigSep Finset.univ fun x : X => if used x = true then cred (tallyAt (xCell c (x, true)) () (amtX x)) else iprop(emp))
    ∗ (bigSep Finset.univ fun r => regSt m ρ c r (start.reg r))
    ∗ stg c cc0_stg0_0 (xstg m ρ c) ∗ stg c cc0_stg1_0 (istg m ρ c) ∗ stg c cc0_stg2_0 (estg m ρ c) ∗ stg c cc0_stg3_0 o)

/-- Everything in place after the barrier. -/
theorem assemble : iprop(records m ρ K ∗ levAts L lv ∗ atPos ER (barCell c) 1 ∅ 0
      ∗ (bigSep Finset.univ fun x : X => if used x = true then regAny (peer c x) (dstR x) else iprop(emp)) ∗ Held m ρ c o
      ∗ ∃ W, owes (c : Thread nD τ) (debt c start.out) W) ⊢ St m ρ K c (stAt 0) o := by
  have hout : iprop((bigSep Finset.univ fun x : X => if used x = true then (regAny (peer c x) (dstR x) : sProp 𝕄) else iprop(emp))
      ∗ (bigSep Finset.univ fun x : X => if used x = true then iprop(dutyTok ER (xCell c (x, false)) 0 0 ∗ dutyTok ER (xCell (peer c x) (x, true)) 0 0) else iprop(emp))
      ∗ bigSep Finset.univ fun x : X => atPos ER (xCell c (x, false)) 0 ∅ 0) ⊢ bigSep Finset.univ fun x => outSt m ρ c x ((stAt 0).out x) := by
    rw [← bigSep_sep', ← bigSep_sep']
    refine mono fun x => ?_
    show _ ⊢ outSt m ρ c x .idle
    dsimp only [outSt]
    by_cases hu : used x = true
    · rw [if_pos hu, if_pos hu, if_pos hu]
      iintro ⟨H1, ⟨H2, H3⟩, H4⟩
      isplitl [H1 H2 H3]
      · isplitl [H2]; · iexact H2
        isplitl [H3]; · iexact H3
        iexact H1
      iexact H4
    · rw [if_neg hu, if_neg hu, if_neg hu]
      iintro ⟨H1, H2, H4⟩
      isplitr; · iempintro
      iexact H4
  have hin : iprop((bigSep Finset.univ fun x : X => if used x = true then cred (tallyAt (xCell c (x, true)) () (amtX x)) else iprop(emp))
      ∗ bigSep Finset.univ fun x : X => atPos ER (xCell c (x, true)) 0 ∅ 0) ⊢ (bigSep Finset.univ fun x => inSt c x ((stAt 0).inn x) : sProp 𝕄) := by
    rw [← bigSep_sep']
    refine mono fun x => ?_
    exact Entails.of_eq rfl
  unfold Held St
  rw [bigSep_sep']
  iintro ⟨HR, Hlev, HB, Hbar, ⟨⟨Hat, Hat'⟩, Htok, Hcr, Hreg, Hx, Hi, He, Ho⟩, HO⟩
  isplitl [HR]; · iexact HR
  isplitl [Hlev]; · iexact Hlev
  isplitl [HB]; · iexact HB
  isplitl [Hbar Htok Hat]
  · iapply hout
    isplitl [Hbar]; · iexact Hbar
    isplitl [Htok]; · iexact Htok
    iexact Hat
  isplitl [Hcr Hat']
  · iapply hin
    isplitl [Hcr]; · iexact Hcr
    iexact Hat'
  isplitl [Hreg]; · iexact Hreg
  isplitl [Hx]; · iexact Hx
  isplitl [Hi]; · iexact Hi
  isplitl [He]; · iexact He
  isplitl [Ho]; · iexact Ho
  iexact HO

/-- What a device holds when the body begins. -/
def Begin (o : (cc0_stg3_0 : Ref sig .tc).ty.Contents (Elt F)) : sProp 𝕄 :=
  iprop(records m ρ K ∗ levAts L lv ∗ atPos ER (barCell c) 0 ∅ 0 ∗ cred (tallyAt (barCell c) () 7)
    ∗ (bigSep Finset.univ fun p : Dev nD => if p = c then iprop(emp) else dutyTok ER (barCell p) 0 (c : Fin 8))
    ∗ (bigSep Finset.univ fun x : X => iprop(atPos ER (xCell c (x, false)) 0 ∅ 0 ∗ atPos ER (xCell c (x, true)) 0 ∅ 0))
    ∗ (bigSep Finset.univ fun x : X => if used x = true then iprop(dutyTok ER (xCell c (x, false)) 0 0 ∗ dutyTok ER (xCell (peer c x) (x, true)) 0 0) else iprop(emp))
    ∗ (bigSep Finset.univ fun x : X => if used x = true then cred (tallyAt (xCell c (x, true)) () (amtX x)) else iprop(emp))
    ∗ (∃ f, stg c cc0_scratch0 f) ∗ (∃ f, stg c cc0_scratch1 f)
    ∗ stg c cc0_stg0_0 (xstg m ρ c) ∗ stg c cc0_stg1_0 (istg m ρ c) ∗ stg c cc0_stg2_0 (estg m ρ c) ∗ stg c cc0_stg3_0 o
    ∗ ∃ W, owes (c : Thread nD τ) (O₀ c) W)

/-- Reading all of the block of expert numbers gives its contents. -/
theorem read_i (inb) (f : (cc0_stg1_0 : Ref sig .tc).ty.Contents (Elt F)) :
    (iM : Memref sig .tc .vmem S512x1 .i32).view.readAt (Elt F) (Rect.unit (s := S512x1) ![0, 0] S512x1.size inb).toLoadRect f = f :=
  Memref.readAt_unit_zero (Elt F) cc0_stg1_0 zero2 _ f
/-- Reading all of the block of experts gives its contents. -/
theorem read_e (inb) (f : (cc0_stg2_0 : Ref sig .tc).ty.Contents (Elt F)) :
    (eM : Memref sig .tc .vmem S4x256x512 .f32).view.readAt (Elt F) (Rect.unit (s := S4x256x512) ![0, 0, 0] S4x256x512.size inb).toLoadRect f = f :=
  Memref.readAt_unit_zero (Elt F) cc0_stg2_0 zero3 _ f

/-- The word of the own place. -/
abbrev myW : BitVec 32 := Scalar.remsi (Scalar.divsi (Dev.word c) 1#32) 8#32

set_option maxHeartbeats 1000000 in
/-- The first piece of the body: the own experts and the own histogram row are written, and the first barrier signal is sent. -/
theorem part1 {Q : (Σ' (_ : Dev nD) (_ : BitVec 32) (_ : BitVec 32) (_ : BitVec 32) (_ : IVec S512x1 32) (_ : FVec F S512x32 .f32), Sems sig S_) → sProp 𝕄}
    (h : ∀ v4 v7, Tell m ρ K c (Held m ρ c o) 1 ⊢ Q ⟨c, myW c, v4, v7, k0_pay1 (istg m ρ c), k0_pay2 (istg m ρ c), SemArray.scalar (sig.barrier 0 rfl)⟩) :
    Begin m ρ K c o ⊢ Wp c (onArgs k0_part1) Q := by
  simp only [onArgs, k0_part1_eq_skeleton, k0_part1_skel, semSignalWord, Prog.lift, Prog.bind_op, Prog.bind_ret, Prog.pure_eq_ret, wp_deviceId]
  unfold Begin
  iintro ⟨#HR, #Hlev, HB, Hc, Htell, Hat, Htok, Hcr, ⟨%fw, Hw⟩, ⟨%fh, Hh⟩, Hx, Hi, He, Ho, HO⟩
  iapply (wp_load 𝒱₀ (c : Thread nD τ) none Set.univ (m := iM) (Finset.subset_univ _)) $$ Hi
  iintro Hi
  rw [read_i]
  iapply (wp_load 𝒱₀ (c : Thread nD τ) none Set.univ (m := hM) (Finset.subset_univ _)) $$ Hh
  iintro Hh
  iapply (wp_store 𝒱₀ (c : Thread nD τ) none Set.univ (m := hM) (r := Rect.unit (s := S8x1x32) (k0_off1 c) S1x1x32.size (k0_off1_inb c)) (Mk := Finset.univ) (Finset.subset_univ _)) $$ Hh
  iintro Hh
  iapply (wp_load 𝒱₀ (c : Thread nD τ) none Set.univ (m := eM) (Finset.subset_univ _)) $$ He
  iintro He
  rw [read_e]
  iapply (wp_load 𝒱₀ (c : Thread nD τ) none Set.univ (m := wM) (Finset.subset_univ _)) $$ Hw
  iintro Hw
  iapply (wp_store 𝒱₀ (c : Thread nD τ) none Set.univ (m := wM) (r := Rect.unit (s := S8x4x256x512) ![0, 0, 0, 0] S1x4x256x512.size inb_S8x4x256x512_S1x4x256x512_0_0_0_0) (Mk := Finset.univ) (Finset.subset_univ _)) $$ Hw
  iintro Hw
  ihave Hcut := (cut m ρ c _ _ (own_w m ρ c fw inb_S8x4x256x512_S1x4x256x512_0_0_0_0) (own_h m ρ c fh (k0_off1_eq c) (k0_off1_inb c))) $$ [Hw Hh]
  · isplitl [Hw]; · iexact Hw
    iexact Hh
  icases Hcut with ⟨Hreg, Hbar⟩
  have hsig : iprop((bigSep Finset.univ fun p : Dev nD => if p = c then (iprop(emp) : sProp 𝕄) else dutyTok ER (barCell p) 0 (c : Fin 8)) ∗ bigSep Finset.univ fun p : Dev nD => barPay p c)
      ⊢ bigSep Finset.univ fun p => sigSt c p (told c 0 p) := by
    rw [← bigSep_sep']
    refine mono fun p => ?_
    rw [told_zero]
    by_cases hp : p = c
    · rw [if_pos hp, decide_eq_true hp]
      dsimp only [sigSt]
      iintro -
      iempintro
    · rw [if_neg hp, decide_eq_false hp]
      dsimp only [sigSt]
      iintro H; iexact H
  iapply (step_signal m ρ K c (Held m ρ c o) 0 (p := ⟨k0_dev1 c, k0_dev1_lt c⟩) (Fin.ext (k0_dev1_eq c)) (wp_end c (h _ _)))
  unfold Tell Held
  isplitr; · iexact HR
  isplitr; · iexact Hlev
  isplitl [HB]; · iexact HB
  isplitl [Hc]; · iexact Hc
  isplitl [Htell Hbar]
  · iapply hsig
    isplitl [Htell]; · iexact Htell
    iexact Hbar
  isplitr [HO]
  · isplitl [Hat]; · iexact Hat
    isplitl [Htok]; · iexact Htok
    isplitl [Hcr]; · iexact Hcr
    isplitl [Hreg]; · iexact Hreg
    isplitl [Hx]; · iexact Hx
    isplitl [Hi]; · iexact Hi
    isplitl [He]; · iexact He
    iexact Ho
  iexact HO

/-- The second piece of the body: the other six barrier signals are sent. -/
theorem part2 {Q : PUnit → sProp 𝕄} (v2 : BitVec 32) (Y : sProp 𝕄) (h : Tell m ρ K c Y 7 ⊢ Q ⟨⟩) :
    Tell m ρ K c Y 1 ⊢ Wp c (onArgs k0_part2 c v2 (SemArray.scalar (sig.barrier 0 rfl))) Q := by
  simp only [onArgs, k0_part2_eq_skeleton, k0_part2_skel, semSignalWord, Prog.lift, Prog.bind_op, Prog.bind_ret, Prog.pure_eq_ret]
  refine step_signal m ρ K c Y 1 (Fin.ext (k0_dev2_eq c)) ?_
  refine step_signal m ρ K c Y 2 (Fin.ext (k0_dev3_eq c)) ?_
  refine step_signal m ρ K c Y 3 (Fin.ext (k0_dev4_eq c)) ?_
  refine step_signal m ρ K c Y 4 (Fin.ext (k0_dev5_eq c)) ?_
  refine step_signal m ρ K c Y 5 (Fin.ext (k0_dev6_eq c)) ?_
  refine step_signal m ρ K c Y 6 (Fin.ext (k0_dev7_eq c)) ?_
  exact wp_end c h

/-- The third piece of the body: the barrier is waited for and the first two copies are started. -/
theorem part3 {Q : PUnit → sProp 𝕄} (v4 v7 : BitVec 32) (h : St m ρ K c (stAt 2) o ⊢ Q ⟨⟩) :
    Tell m ρ K c (Held m ρ c o) 7 ⊢ Wp c (onArgs k0_part3 c v4 v7 (SemArray.scalar (sig.barrier 0 rfl))) Q := by
  simp only [onArgs, k0_part3_eq_skeleton, k0_part3_skel, semWaitWord, Prog.lift, Prog.bind_op, Prog.bind_ret, Prog.pure_eq_ret]
  refine step_bar m ρ K c (Held m ρ c o) ((assemble m ρ K c).trans ?_)
  refine step_sendW m ρ K 0 (Fin.ext (k0_dev8_eq c)) ?_
  refine step_sendW m ρ K 16 (Fin.ext (k0_dev9_eq c)) ?_
  exact wp_end c h

end Cert.KernelIdealProof

end
-- ==== Proof.KernelIdealBody.lean ====
/-
The whole body: the parts in order, and what the device has in hand at the end.
-/
module

public import proofs.«01_k».proof.Proof.KernelIdealEntry

@[expose] public section

noncomputable section

namespace Cert.KernelIdealProof

open Cert.KernelIdeal Cert.KernelIdeal.Gen Cert.Tables

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option (X × Bool) → ℕ) (c : Dev nD) {o : (cc0_stg3_0 : Ref sig .tc).ty.Contents (Elt F)}

/-! ### The result block, slot by slot -/

/-- The expert numbers of the tokens of device `c`. -/
abbrev vE : IVec S512x1 32 := k0_pay1 (istg m ρ c)
/-- Which tokens are accepted. -/
def vA : IVec S512x1 1 := k0_pay6 (myW c) (k0_pay2 (istg m ρ c)) (k0_pay5 (k0_pay2 (istg m ρ c))) (HB m ρ)
/-- The tokens of device `c` as the products take them. -/
abbrev vX : FVec F S512x256 .bf16 := k0_pay7 (xstg m ρ c)
/-- The zero block. -/
abbrev cst0 : FVec F S512x512 .f32 := constant S512x512 .f32 0x00000000#32

/-- The result block after each of the eight slots. -/
def out0 (o : (cc0_stg3_0 : Ref sig .tc).ty.Contents (Elt F)) : (cc0_stg3_0 : Ref sig .tc).ty.Contents (Elt F) :=
  k0_pay10 (vE m ρ c) (vA m ρ c) (vX m ρ c) (wup (myW c) 0#32) (k0_pay9 (myW c) (vE m ρ c) (vA m ρ c) (xstg m ρ c) (ck m ρ c 0) (ck m ρ c 1)) (Scalar.muli (wup (myW c) 0#32) 4#32) (ck m ρ c 2) (ck m ρ c 3) o
/-- The output block after slot 1 has been added to `o`. -/
def out1 (o : (cc0_stg3_0 : Ref sig .tc).ty.Contents (Elt F)) : (cc0_stg3_0 : Ref sig .tc).ty.Contents (Elt F) :=
  k0_pay13 (vE m ρ c) (vA m ρ c) (vX m ρ c) (wup (myW c) 1#32) (k0_pay11 (myW c) (vE m ρ c) (vA m ρ c) (vX m ρ c) (ck m ρ c 4) (ck m ρ c 5)) (k0_pay12 (myW c) (vE m ρ c) (vA m ρ c)) (ck m ρ c 6) (ck m ρ c 7) o
/-- The output block after slot 5 has been added to `o`. -/
def out5 (o : (cc0_stg3_0 : Ref sig .tc).ty.Contents (Elt F)) : (cc0_stg3_0 : Ref sig .tc).ty.Contents (Elt F) :=
  k0_pay17 (vX m ρ c) (k0_pay15 (vE m ρ c) (vA m ρ c) (vX m ρ c) (wdn (myW c) 1#32) (k0_pay14 (myW c) (vE m ρ c) (vA m ρ c) (vX m ρ c)) (ck m ρ c 20) (ck m ρ c 21) (ck m ρ c 22)) (k0_pay16 (vE m ρ c) (vA m ρ c) (wdn (myW c) 1#32)) (ck m ρ c 23) o
/-- The output block after slot 2 has been added to `o`. -/
def out2 (o : (cc0_stg3_0 : Ref sig .tc).ty.Contents (Elt F)) : (cc0_stg3_0 : Ref sig .tc).ty.Contents (Elt F) :=
  k0_pay22 (k0_pay20 (vE m ρ c) (vA m ρ c) (vX m ρ c) (wup (myW c) 2#32) (k0_pay18 (myW c) (vE m ρ c) (vA m ρ c) (vX m ρ c)) (k0_pay19 (ck m ρ c 8)) cst0 (ck m ρ c 9) (ck m ρ c 10)) (k0_pay21 (vE m ρ c) (vA m ρ c) (vX m ρ c) (wup (myW c) 2#32)) (ck m ρ c 11) o
/-- The output block after slot 6 has been added to `o`. -/
def out6 (o : (cc0_stg3_0 : Ref sig .tc).ty.Contents (Elt F)) : (cc0_stg3_0 : Ref sig .tc).ty.Contents (Elt F) :=
  k0_pay24 (vE m ρ c) (vA m ρ c) (vX m ρ c) (wdn (myW c) 2#32) (k0_pay23 (myW c) (vE m ρ c) (vA m ρ c) (vX m ρ c) (ck m ρ c 24) (ck m ρ c 25)) (Scalar.muli (wdn (myW c) 2#32) 4#32) (ck m ρ c 26) (ck m ρ c 27) o
/-- The output block after slot 3 has been added to `o`. -/
def out3 (o : (cc0_stg3_0 : Ref sig .tc).ty.Contents (Elt F)) : (cc0_stg3_0 : Ref sig .tc).ty.Contents (Elt F) :=
  k0_pay29 (k0_pay26 (vE m ρ c) (vA m ρ c) (vX m ρ c) (wup (myW c) 3#32) (k0_pay25 (myW c) (vE m ρ c) (vA m ρ c) (vX m ρ c) (ck m ρ c 12)) 4#32 (ck m ρ c 13) (ck m ρ c 14)) (k0_pay27 (vE m ρ c) (vA m ρ c) (vX m ρ c) (wup (myW c) 3#32)) (k0_pay28 (ck m ρ c 15)) cst0 o
/-- The output block after slot 7 has been added to `o`. -/
def out7 (o : (cc0_stg3_0 : Ref sig .tc).ty.Contents (Elt F)) : (cc0_stg3_0 : Ref sig .tc).ty.Contents (Elt F) :=
  k0_pay31 (vE m ρ c) (vA m ρ c) (vX m ρ c) (wdn (myW c) 3#32) (k0_pay30 (myW c) (vE m ρ c) (vA m ρ c) (vX m ρ c) (ck m ρ c 28) (ck m ρ c 29)) (Scalar.addi (Scalar.muli (wdn (myW c) 3#32) 4#32) 2#32) (ck m ρ c 30) (ck m ρ c 31) o
/-- The output block after slot 4 has been added to `o`. -/
def out4 (o : (cc0_stg3_0 : Ref sig .tc).ty.Contents (Elt F)) : (cc0_stg3_0 : Ref sig .tc).ty.Contents (Elt F) :=
  k0_pay34 (vE m ρ c) (vA m ρ c) (vX m ρ c) (wup (myW c) 4#32) (k0_pay32 (myW c) (vE m ρ c) (vA m ρ c) (vX m ρ c) (ck m ρ c 16)) (k0_pay33 (myW c) (vE m ρ c) (vA m ρ c)) (ck m ρ c 17) (ck m ρ c 18) (ck m ρ c 19) o
/-- What the kernel leaves in the result block of device `c`. -/
def outAt : (cc0_stg3_0 : Ref sig .tc).ty.Contents (Elt F) :=
  out4 m ρ c (out7 m ρ c (out3 m ρ c (out6 m ρ c (out2 m ρ c (out5 m ρ c (out1 m ρ c (out0 m ρ c k0_pay8)))))))

/-! ### The end -/

/-- What device `c` has in hand at the end. -/
def End (o : (cc0_stg3_0 : Ref sig .tc).ty.Contents (Elt F)) : sProp 𝕄 :=
  iprop(semVal (barCell c) 0 ∗ (bigSep Finset.univ fun x : X => iprop(semVal (xCell c (x, false)) 0 ∗ semVal (xCell c (x, true)) 0))
    ∗ (∃ f, stg c cc0_scratch0 f) ∗ (∃ f, stg c cc0_scratch1 f)
    ∗ stg c cc0_stg0_0 (xstg m ρ c) ∗ stg c cc0_stg1_0 (istg m ρ c) ∗ stg c cc0_stg2_0 (estg m ρ c) ∗ stg c cc0_stg3_0 o
    ∗ ∃ W, owes (c : Thread nD τ) 0 W)

/-- At the end every copy that is made has had its source read. -/
theorem end_out : ∀ x : X, (stAt 105).out x = if used x = true then .done else .idle := by decide
/-- At the end every incoming copy has landed. -/
theorem end_inn : ∀ x : X, (stAt 105).inn x = used x := by decide
/-- How many shares of a region have been handed out by the end. -/
def lentN (r : R) : ℕ := ((stAt 105).reg r).getD 0
/-- At the end every region is at hand. -/
theorem end_reg : ∀ r : R, (stAt 105).reg r = some (lentN r) := by decide
/-- The shares of a region handed out by the end are those its copies take. -/
theorem end_toks : ∀ r : R, ((Finset.univ.filter fun x : X => used x = true ∧ srcR x = r).image tok) = Finset.range (lentN r) := by decide
/-- Two copies taking the same share of the same source are one copy. -/
theorem end_inj : ∀ x y : X, used x = true → used y = true → srcR x = srcR y → tok x = tok y → x = y := by decide

/-- Something kept for good may be used on each member of a family. -/
theorem with_records {I : Type} [Fintype I] [DecidableEq I] {P : sProp 𝕄} [BI.Persistent P] {Φ Ψ : I → sProp 𝕄}
    (h : ∀ i, iprop(P ∗ Φ i) ⊢ Ψ i) : iprop(P ∗ bigSep Finset.univ Φ) ⊢ bigSep Finset.univ Ψ :=
  (sep_mono_left (BI.bigSep_of_persistent Finset.univ P)).trans (by rw [← bigSep_sep']; exact mono h)

/-- A send semaphore's cell closes. -/
theorem close_send (x : X) : iprop(records m ρ K ∗ outSt m ρ c x ((stAt 105).out x))
    ⊢ |={Set.univ}=> iprop((if used x = true then regPts m ρ c (srcR x) (shareTokN fullShare (tok x)) else iprop(emp)) ∗ semVal (xCell c (x, false)) 0) := by
  rw [end_out]
  by_cases hu : used x = true
  · rw [if_pos hu, if_pos hu]
    dsimp only [outSt]
    iintro ⟨#HR, Hp, Hat⟩
    ihave #Hi := (inv_at m ρ K (c, some (x, false))) $$ HR
    imod (Rounds.cell_close ER (sched m ρ) (Set.mem_univ (K (c, some (x, false)))) (fun h => h) (R := 0 + 1) (duties_later m ρ (xCell c (x, false)))) $$ [Hat] with Hz
    · isplitr; · iexact Hi
      iexact Hat
    imodintro
    isplitl [Hp]; · iexact Hp
    iexact Hz
  · rw [if_neg hu, if_neg hu]
    dsimp only [outSt]
    iintro ⟨#HR, Hp, Hat⟩
    ihave #Hi := (inv_at m ρ K (c, some (x, false))) $$ HR
    imod (Rounds.cell_close ER (sched m ρ) (Set.mem_univ (K (c, some (x, false)))) (fun h => h) (R := 0) (fun r _ => duties_x_unused m ρ c (x, false) (by simpa using hu) r)) $$ [Hat] with Hz
    · isplitr; · iexact Hi
      iexact Hat
    imodintro
    isplitr; · iempintro
    iexact Hz

/-- A receive semaphore's cell closes. -/
theorem close_recv (x : X) : iprop(records m ρ K ∗ inSt c x ((stAt 105).inn x)) ⊢ |={Set.univ}=> (semVal (xCell c (x, true)) 0 : sProp 𝕄) := by
  rw [end_inn]
  by_cases hu : used x = true
  · rw [hu]
    dsimp only [inSt]
    iintro ⟨#HR, Hat⟩
    ihave #Hi := (inv_at m ρ K (c, some (x, true))) $$ HR
    imod (Rounds.cell_close ER (sched m ρ) (Set.mem_univ (K (c, some (x, true)))) (fun h => h) (R := 0 + 1) (duties_later m ρ (xCell c (x, true)))) $$ [Hat] with Hz
    · isplitr; · iexact Hi
      iexact Hat
    imodintro
    iexact Hz
  · rw [show used x = false by simpa using hu]
    dsimp only [inSt]
    iintro ⟨#HR, -, Hat⟩
    ihave #Hi := (inv_at m ρ K (c, some (x, true))) $$ HR
    imod (Rounds.cell_close ER (sched m ρ) (Set.mem_univ (K (c, some (x, true)))) (fun h => h) (R := 0) (fun r _ => duties_x_unused m ρ c (x, true) (by simpa using hu) r)) $$ [Hat] with Hz
    · isplitr; · iexact Hi
      iexact Hat
    imodintro
    iexact Hz

/-- The read shares back at their regions. -/
theorem toks_back : (bigSep Finset.univ fun x : X => if used x = true then regPts m ρ c (srcR x) (shareTokN fullShare (tok x)) else (iprop(emp) : sProp 𝕄))
    = bigSep Finset.univ fun r : R => bigSep (Finset.range (lentN r)) fun i => regPts m ρ c r (shareTokN fullShare i) := by
  rw [sorted_by srcR]
  refine bigSep_congr fun r _ => ?_
  rw [← end_toks r, bigSep_image_of_injOn (fun x hx y hy => end_inj x y (by simp at hx; exact hx.1) (by simp at hy; exact hy.1) (by simp at hx hy; rw [hx.2, hy.2]))]
  refine Eq.trans ?_ (BI.bigSep_filter Finset.univ (fun x : X => used x = true ∧ srcR x = r) fun x => regPts m ρ c r (shareTokN fullShare (tok x))).symm
  refine bigSep_congr fun x _ => ?_
  by_cases hs : srcR x = r
  · rw [if_pos hs]
    by_cases hu : used x = true
    · rw [if_pos hu, if_pos ⟨hu, hs⟩, hs]
    · rw [if_neg hu, if_neg fun h => hu h.1]; rfl
  · rw [if_neg hs, if_neg fun h => hs h.2]; rfl

/-- The buffers whole again. -/
theorem whole_again : iprop((bigSep Finset.univ fun r => regSt m ρ c r ((stAt 105).reg r))
      ∗ bigSep Finset.univ fun x : X => if used x = true then regPts m ρ c (srcR x) (shareTokN fullShare (tok x)) else (iprop(emp) : sProp 𝕄))
    ⊢ iprop((∃ f, stg c cc0_scratch0 f) ∗ (∃ f, stg c cc0_scratch1 f)) := by
  have e : iprop((bigSep Finset.univ fun r => regSt m ρ c r ((stAt 105).reg r))
      ∗ bigSep Finset.univ fun r : R => bigSep (Finset.range (lentN r)) fun i => regPts m ρ c r (shareTokN fullShare i))
      = (bigSep Finset.univ fun r : R => regPts m ρ c r fullShare) := by
    rw [← bigSep_sep']
    refine bigSep_congr fun r _ => ?_
    rw [end_reg, reg_toks m ρ c r (lentN r)]
    rfl
  rw [toks_back, e, both_sum]
  iintro ⟨H1, H2⟩
  isplitl [H1]
  · iexists (WB m ρ c)
    iapply (Entails.of_eq (chunks_eq c fullShare (WB m ρ c)).symm)
    iexact H1
  · iexists (HB m ρ)
    iapply (Entails.of_eq (rows_eq c fullShare (HB m ρ)).symm)
    iexact H2

/-- At the end nothing is owed. -/
theorem debt_end : debt c (stAt 105).out = 0 :=
  Finset.sum_eq_zero fun x _ => if_neg fun h => by have := h.2; rw [end_out, if_pos h.1] at this; cases this

/-- From the last step the device gets back all its buffers and semaphores. -/
theorem finish : St m ρ K c (stAt 105) o ⊢ |={Set.univ}=> End m ρ c o := by
  unfold St End
  rw [debt_end]
  have h1 : iprop(records m ρ K ∗ bigSep Finset.univ fun x => outSt m ρ c x ((stAt 105).out x))
      ⊢ |={Set.univ}=> iprop((bigSep Finset.univ fun x : X => if used x = true then regPts m ρ c (srcR x) (shareTokN fullShare (tok x)) else iprop(emp)) ∗ bigSep Finset.univ fun x : X => semVal (xCell c (x, false)) 0) := by
    rw [← bigSep_sep']
    exact (with_records fun x => close_send m ρ K c x).trans (bigSep_fupd _ _)
  have h2 : iprop(records m ρ K ∗ bigSep Finset.univ fun x => inSt c x ((stAt 105).inn x))
      ⊢ |={Set.univ}=> (bigSep Finset.univ fun x : X => semVal (xCell c (x, true)) 0 : sProp 𝕄) :=
    (with_records fun x => close_recv m ρ K c x).trans (bigSep_fupd _ _)
  rw [bigSep_sep']
  iintro ⟨#HR, -, HB, Hout, Hin, Hreg, Hx, Hi, He, Ho, HO⟩
  ihave #Hinv := (inv_at m ρ K (c, none)) $$ HR
  imod (Rounds.cell_close ER (sched m ρ) (Set.mem_univ (K (c, none))) (fun h => h) (R := 0 + 1) (duties_later m ρ (barCell c))) $$ [HB] with Hz
  · isplitr; · iexact Hinv
    iexact HB
  imod h1 $$ [Hout] with ⟨Htok, Hz1⟩
  · isplitr; · iexact HR
    iexact Hout
  imod h2 $$ [Hin] with Hz2
  · isplitr; · iexact HR
    iexact Hin
  ihave Hw := (whole_again m ρ c) $$ [Hreg Htok]
  · isplitl [Hreg]; · iexact Hreg
    iexact Htok
  icases Hw with ⟨Hw, Hh⟩
  imodintro
  isplitl [Hz]; · iexact Hz
  isplitl [Hz1 Hz2]
  · isplitl [Hz1]; · iexact Hz1
    iexact Hz2
  isplitl [Hw]; · iexact Hw
  isplitl [Hh]; · iexact Hh
  isplitl [Hx]; · iexact Hx
  isplitl [Hi]; · iexact Hi
  isplitl [He]; · iexact He
  isplitl [Ho]; · iexact Ho
  iexact HO

/-! ### The body -/

set_option maxRecDepth 8000 in
set_option maxHeartbeats 4000000 in
/-- The body runs from what the device holds at the start to the computed result block. -/
theorem body_run {Q : PUnit → sProp 𝕄} (h : End m ρ c (outAt m ρ c) ⊢ Q ⟨⟩) : Begin m ρ K c o ⊢ Wp c (onArgs cc0_body) Q := by
  have h' : St m ρ K c (stAt 105) (outAt m ρ c) ⊢ Wp c (.ret ⟨⟩) Q := by
    unfold Wp
    rw [wp_ret]
    exact (finish m ρ K c).trans (BI.fupd_mono h)
  simp only [onArgs, cc0_body_eq_skeleton]
  unfold cc0_body_skel
  refine seq c (part1 m ρ K c fun v4 v7 => ?_)
  refine seq c (part2 m ρ K c _ _ ?_)
  refine seq c (part3 m ρ K c _ _ ?_)
  refine seq c (part4 m ρ K c _ _ ?_)
  refine seq c (part5 m ρ K c _ _ ?_)
  refine seq c (part6 m ρ K c _ (fun r => ?_))
  obtain ⟨v137, v149, v161, c1⟩ := r
  refine seq c (part7 m ρ K c _ _ _ (fun r => ?_))
  obtain ⟨v173, v185⟩ := r
  refine seq c (part8 m ρ K c _ _ (fun r hr => ?_))
  obtain ⟨v197, v209, v228⟩ := r
  subst hr
  refine seq c (part9 m ρ K c _ _ ?_)
  refine seq c (part10 m ρ K c _ _ ?_)
  refine seq c (part11 m ρ K c _ _ ?_)
  refine seq c (part12 m ρ K c _ _ _ _ ?_)
  refine seq c (part13 m ρ K c _ _ _ ?_)
  refine seq c (part14 m ρ K c _ _ _ _ _ _ ?_)
  refine seq c (part15 m ρ K c _ ?_)
  refine seq c (part16 m ρ K c _ ?_)
  refine seq c (part17 m ρ K c _ ?_)
  refine seq c (part18 m ρ K c _ ?_)
  refine seq c (part19 m ρ K c _ ?_)
  refine seq c (part20 m ρ K c _ ?_)
  refine seq c (part21 m ρ K c _ ?_)
  refine seq c (part22 m ρ K c _ ?_)
  refine seq c (part23 m ρ K c _ _ _ _ ?_)
  refine seq c (part24 m ρ K c _ _ _ _ _ _ _ ?_)
  refine seq c (part25 m ρ K c _ _ _ _ _ ?_)
  refine seq c (part26 m ρ K c _ _ _ _ ?_)
  refine seq c (part27 m ρ K c _ _ ?_)
  refine seq c (part28 m ρ K c _ _ ?_)
  refine seq c (part29 m ρ K c _ _ ?_)
  refine seq c (part30 m ρ K c _ _ ?_)
  refine seq c (part31 m ρ K c _ _ ?_)
  refine seq c (part32 m ρ K c _ _ ?_)
  refine seq c (part33 m ρ K c _ _ ?_)
  refine seq c (part34 m ρ K c _ _ _ _ _ ?_)
  refine seq c (part35 m ρ K c _ _ _ _ _ _ _ ?_)
  refine seq c (part36 m ρ K c _ _ _ _ _ _ _ ?_)
  refine seq c (part37 m ρ K c _ _ _ _ _ _ ?_)
  refine seq c (part38 m ρ K c _ ?_)
  refine seq c (part39 m ρ K c _ _ ?_)
  refine seq c (part40 m ρ K c _ _ ?_)
  refine seq c (part41 m ρ K c _ ?_)
  refine seq c (part42 m ρ K c _ ?_)
  refine seq c (part43 m ρ K c _ _ ?_)
  refine seq c (part44 m ρ K c _ _ _ _ _ ?_)
  refine seq c (part45 m ρ K c _ _ _ _ _ _ ?_)
  refine seq c (part46 m ρ K c _ _ _ _ _ _ _ _ ?_)
  refine seq c (part47 m ρ K c _ _ _ _ _ _ ?_)
  refine seq c (part48 m ρ K c _ ?_)
  refine seq c (part49 m ρ K c _ ?_)
  refine seq c (part50 m ρ K c _ _ _ _ _ ?_)
  refine seq c (part51 m ρ K c _ _ _ _ _ _ ?_)
  refine step_storeO m ρ K _ ?_
  exact h'

end Cert.KernelIdealProof

end
-- ==== Proof.KernelIdealRun.lean ====
/-
The launch: the semaphores' records made for all devices at once, the tokens and credits dealt out, and the run of the
whole program with what it leaves in memory.
-/
module

public import proofs.«01_k».proof.Proof.KernelIdealBody
public import Idealize.ShloMosaic.Lib.Pipeline.CollectiveSegs

@[expose] public section

noncomputable section

namespace Cert.KernelIdealProof

open Cert.KernelIdeal Cert.KernelIdeal.Gen Cert.Tables

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ### Families over a device's semaphores -/

/-- A family over the two truth values is its two members. -/
theorem bool_eq {M : Type} [URA M] (Φ : Bool → sProp M) : bigSep Finset.univ Φ = iprop(Φ false ∗ Φ true) :=
  bigSep_univ_eq_bigSepL [false, true] (by decide) (by decide) Φ

/-- A family over the semaphores of the copies is, for each copy, the send and the receive member. -/
theorem copies_eq {M : Type} [URA M] (Φ : X × Bool → sProp M) :
    bigSep Finset.univ Φ = bigSep Finset.univ fun x : X => iprop(Φ (x, false) ∗ Φ (x, true)) := by
  rw [bigSep_univ_prod]; exact BI.bigSep_congr fun x _ => bool_eq _

/-- A family over the semaphores of a device is the barrier's member and, for each copy, the send and the receive member. -/
theorem cells_eq {M : Type} [URA M] (Φ : Option (X × Bool) → sProp M) :
    bigSep Finset.univ Φ = iprop(Φ none ∗ bigSep Finset.univ fun x : X => iprop(Φ (some (x, false)) ∗ Φ (some (x, true)))) := by
  rw [bigSep_univ_equiv (Equiv.optionEquivSumPUnit.{0} (X × Bool)).symm, bigSep_univ_sum, copies_eq, BI.bigSep_univ_of_subsingleton PUnit.unit]
  exact equiv_iff.mp ⟨BI.sep_comm, BI.sep_comm⟩

/-- What is not needed is dropped. -/
theorem gone (P : sProp 𝕄) : P ⊢ iprop(emp) := by iintro -; iempintro

/-! ### The point's data -/

/-- What a device's semaphores hold for it and the tokens of the duties it pays. -/
def hand (c : Dev nD) : sProp 𝕄 :=
  iprop((atPos ER (barCell c) 0 ∅ 0
      ∗ bigSep Finset.univ fun x : X => iprop(atPos ER (xCell c (x, false)) 0 ∅ 0 ∗ atPos ER (xCell c (x, true)) 0 ∅ 0))
    ∗ (bigSep Finset.univ fun p : Dev nD => if p = c then iprop(emp) else dutyTok ER (barCell p) 0 (c : Fin 8))
    ∗ (bigSep Finset.univ fun x : X => if used x = true then iprop(dutyTok ER (xCell c (x, false)) 0 0 ∗ dutyTok ER (xCell (peer c x) (x, true)) 0 0) else iprop(emp)))

/-- What a device is owed. -/
def dues (c : Dev nD) : sProp 𝕄 :=
  iprop(cred (tallyAt (barCell c) () 7) ∗ (bigSep Finset.univ fun x : X => if used x = true then cred (tallyAt (xCell c (x, true)) () (amtX x)) else iprop(emp)))

/-- What the launch brings a device. -/
def entry (c : Dev nD) : sProp 𝕄 := iprop((∃ K, records m ρ K ∗ hand c) ∗ dues c ∗ levAts L lv)

/-- Before the body. -/
def Φ₀ (c : Dev nD) : sProp 𝕄 := iprop(entry m ρ c ∗ (∃ f, stg c cc0_scratch0 f) ∗ (∃ f, stg c cc0_scratch1 f))
/-- After the body. -/
def Φ₁ (c : Dev nD) : sProp 𝕄 :=
  iprop(semVal (barCell c) 0 ∗ (bigSep Finset.univ fun x : X => iprop(semVal (xCell c (x, false)) 0 ∗ semVal (xCell c (x, true)) 0))
    ∗ (∃ f, stg c cc0_scratch0 f) ∗ (∃ f, stg c cc0_scratch1 f))

/-- What the staging of the call holds: the arrays at launch, the blocks after the body, and what the body keeps around it. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => istg m ρ c
    | ⟨2, _⟩ => estg m ρ c
    | ⟨3, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- Every input block is fetched. -/
theorem fetch_in (w : Fin 4) (h : w ≠ 3) (t : Fin cfg0.N) : (cfg0.win w).fetch t = true := by
  rw [fin_N0 t]; revert w; decide

/-- Owning a whole buffer is holding it with those contents. -/
theorem owns_all (c : Dev nD) (b : Ref sig .tc) (f : b.ty.Contents (Elt F)) :
    (owns (c : Thread nD τ) (Memref.whole b) fullShare f : sProp 𝕄) = iprop(∃ g : Buf (Elt F) (((c : Dev nD) : Thread nD τ).loc b), ⌜g = f⌝ ∗ stg c b g) := by
  unfold owns; simp only [Memref.view_whole, View.read_whole, View.set_whole]

/-- A staging buffer at the point's start. -/
abbrev stgX (c : Dev nD) (b : Ref sig .tc) (f : b.ty.Contents (Elt F)) : sProp 𝕄 :=
  iprop(∃ g : Buf (Elt F) (((c : Dev nD) : Thread nD τ).loc b), ⌜g = f⌝ ∗ stg c b g)

/-- What the body starts with. -/
def bodyPre (c : Dev nD) : sProp 𝕄 :=
  iprop(Φ₀ m ρ c ∗ (dats m ρ 0 c).owesAt () t0_0.castSucc
    ∗ (∃ d, stgX c cc0_stg0_0 ((dats m ρ 0 c).before (0 : Fin 4) t0_0 d))
    ∗ (∃ d, stgX c cc0_stg1_0 ((dats m ρ 0 c).before (1 : Fin 4) t0_0 d))
    ∗ (∃ d, stgX c cc0_stg2_0 ((dats m ρ 0 c).before (2 : Fin 4) t0_0 d))
    ∗ (∃ d, stgX c cc0_stg3_0 ((dats m ρ 0 c).before (3 : Fin 4) t0_0 d)))

/-- What the body ends with. -/
def bodyPost (c : Dev nD) : sProp 𝕄 :=
  iprop(Φ₁ c ∗ (dats m ρ 0 c).owesAt () t0_0.succ ∗ stgX c cc0_stg0_0 (xstg m ρ c) ∗ stgX c cc0_stg1_0 (istg m ρ c)
    ∗ stgX c cc0_stg2_0 (estg m ρ c) ∗ stgX c cc0_stg3_0 (outAt m ρ c))

/-- What the device has after the last step is what the body is to end with. -/
theorem leave (c : Dev nD) : End m ρ c (outAt m ρ c) ⊢ bodyPost m ρ c := by
  unfold End bodyPost Φ₁ Dat.owesAt Pipeline.owesWithin
  rw [show (dats m ρ 0 c).owed t0_0.succ = 0 from rfl]
  iintro ⟨Hb, Hs, Hw, Hh, Hx, Hi, He, Ho, ⟨%W, HO⟩⟩
  isplitl [Hb Hs Hw Hh]
  · isplitl [Hb]; · iexact Hb
    isplitl [Hs]; · iexact Hs
    isplitl [Hw] <;> iassumption
  isplitl [HO]
  · iexists W
    isplitr; · ipureintro; exact fun _ _ => Or.inl trivial
    iexact HO
  isplitl [Hx]
  · iexists _; isplitr; · (ipureintro; rfl)
    iexact Hx
  isplitl [Hi]
  · iexists _; isplitr; · (ipureintro; rfl)
    iexact Hi
  isplitl [He]
  · iexists _; isplitr; · (ipureintro; rfl)
    iexact He
  iexists _; isplitr; · (ipureintro; rfl)
  iexact Ho

/-- The body, started with what it is given, runs and ends with what it is to end with. -/
theorem enter (c : Dev nD) : bodyPre m ρ c ⊢ Wp c (onArgs cc0_body) (fun _ => bodyPost m ρ c) := by
  have key : ∀ K o, Begin m ρ K c o ⊢ Wp c (onArgs cc0_body) (fun _ => bodyPost m ρ c) := fun K o => body_run m ρ K c (leave m ρ c)
  unfold bodyPre Φ₀ entry hand dues Dat.owesAt Pipeline.owesWithin
  rw [show (dats m ρ 0 c).owed t0_0.castSucc = O₀ c from rfl]
  iintro ⟨⟨⟨⟨%K, #HR, ⟨HaB, HaX⟩, HtB, HtX⟩, ⟨HcB, HcX⟩, #Hlev⟩, Hw, Hh⟩, ⟨%W, %hW, HO⟩, ⟨%d0, %g0, %hg0, Hx⟩, ⟨%d1, %g1, %hg1, Hi⟩, ⟨%d2, %g2, %hg2, He⟩, ⟨%d3, %g3, %hg3, Ho⟩⟩
  have h0 : g0 = xstg m ρ c := by rw [hg0]; unfold Dat.before; rw [if_pos (fetch_in 0 (by decide) t0_0)]; rfl
  have h1 : g1 = istg m ρ c := by rw [hg1]; unfold Dat.before; rw [if_pos (fetch_in 1 (by decide) t0_0)]; rfl
  have h2 : g2 = estg m ρ c := by rw [hg2]; unfold Dat.before; rw [if_pos (fetch_in 2 (by decide) t0_0)]; rfl
  subst h0 h1 h2
  iapply (key K g3)
  unfold Begin
  isplitr; · iexact HR
  isplitr; · iexact Hlev
  isplitl [HaB]; · iexact HaB
  isplitl [HcB]; · iexact HcB
  isplitl [HtB]; · iexact HtB
  isplitl [HaX]; · iexact HaX
  isplitl [HtX]; · iexact HtX
  isplitl [HcX]; · iexact HcX
  isplitl [Hw]; · iexact Hw
  isplitl [Hh]; · iexact Hh
  isplitl [Hx]; · iexact Hx
  isplitl [Hi]; · iexact Hi
  isplitl [He]; · iexact He
  isplitl [Ho]; · iexact Ho
  iexists W; iexact HO

set_option maxRecDepth 100000 in
/-- What the library asks of the body. -/
theorem body_obligation (c : Dev nD) : BodyObligation (dats (F := F) m ρ 0 c) (defs₀ (F := F)) 𝒱₀ () Set.univ := fun t => by
  rw [fin_N0 t]
  rw [show ∀ Φ : Fin cfg0.W → sProp 𝕄, bigSep Finset.univ Φ = iprop(Φ (0 : Fin 4) ∗ Φ (1 : Fin 4) ∗ Φ (2 : Fin 4) ∗ Φ (3 : Fin 4)) from fun Φ => bigSep_W0 Φ,
    show ∀ Φ : Fin cfg0.W → sProp 𝕄, bigSep Finset.univ Φ = iprop(Φ (0 : Fin 4) ∗ Φ (1 : Fin 4) ∗ Φ (2 : Fin 4) ∗ Φ (3 : Fin 4)) from fun Φ => bigSep_W0 Φ]
  simp only [owns_all]
  exact enter m ρ c

/-! ### The launch -/

/-- The semaphores of the copies, as the call lists them. -/
abbrev osem : X × Bool → SemLoc sig := fun p => .dma (xsem p)

/-- Different copies, or different ends of a copy, have different semaphores. -/
theorem xsem_inj {p q : X × Bool} (h : xsem p = xsem q) : p = q := by
  have := congrArg (fun s : DmaSem sig => dec s.val) h
  dsimp only [xsem] at this; rw [dec_semN, dec_semN] at this; exact Option.some.inj this

/-- The list of the copies' semaphores has no semaphore twice. -/
theorem osem_inj : Function.Injective osem := fun p q h => xsem_inj (by injection h)

/-- A semaphore of the staging belongs to no copy. -/
theorem dec_stage (w : Fin 4) (s : Fin (cfg0.win w).nbuf) : dec ((cfg0.win w).sem s).val = none := by revert w s; decide

/-- The copies' semaphores are the call's own, listed once, and none is of the staging. -/
theorem ownSemFacts : Pipeline.OwnSemFacts cfg0.spec osem where
  isScoped p := by revert p; decide
  inj := osem_inj
  disj p w s h := by
    have h' : xsem p = (cfg0.win w).sem s := by injection h
    have := congrArg (fun s : DmaSem sig => dec s.val) h'
    dsimp only at this
    rw [dec_stage] at this
    dsimp only [xsem] at this
    rw [dec_semN] at this; cases this

/-- Every array of the call is held whole. -/
theorem share_eq (c : Dev nD) (w : Fin cfg0.W) : (dats m ρ 0 c).share w = fullShare := by unfold Dat.share; split <;> rfl

/-- A copy's semaphore determines its device and the copy. -/
theorem xCell_inj {c c' : Dev nD} {p q : X × Bool} (h : xCell c p = xCell c' q) : c = c' ∧ p = q :=
  ⟨congrArg (fun g : GSem nD τ sig => g.1.1) h, osem_inj (congrArg Prod.snd h)⟩
/-- A barrier semaphore determines its device. -/
theorem barCell_inj {c c' : Dev nD} (h : barCell c = barCell c') : c = c' := congrArg (fun g : GSem nD τ sig => g.1.1) h
/-- A barrier semaphore is no copy's semaphore. -/
theorem bar_ne_x {c c' : Dev nD} {p : X × Bool} (h : barCell c = xCell c' p) : False := by
  have := congrArg Prod.snd h; cases this

/-- All the semaphores the protocol names are different. -/
theorem kcell_injective : Function.Injective (kcell : Dev nD × Option (X × Bool) → GSem nD τ sig) := by
  rintro ⟨c, _ | p⟩ ⟨c', _ | q⟩ h
  · obtain rfl := barCell_inj (show barCell c = barCell c' from h); rfl
  · exact (bar_ne_x h).elim
  · exact (bar_ne_x h.symm).elim
  · obtain ⟨rfl, rfl⟩ := xCell_inj h; rfl

/-- All the semaphores of the protocol. -/
def allCells : Finset (GSem nD τ sig) := Finset.univ.map ⟨kcell, kcell_injective⟩

/-- The duty tokens made at the launch for a device's own semaphores: its barrier's, by the payer, and one per copy semaphore. -/
abbrev tokOf (cj : Dev nD × (Fin 8 ⊕ X × Bool)) : GSem nD τ sig × ℕ × Fin 8 := match cj.2 with
  | .inl d => (barCell cj.1, 0, d)
  | .inr p => (xCell cj.1 p, 0, 0)

/-- All the signals the protocol names are different. -/
theorem tokOf_injective : Function.Injective (tokOf : Dev nD × (Fin 8 ⊕ X × Bool) → GSem nD τ sig × ℕ × Fin 8) := by
  rintro ⟨c, d | p⟩ ⟨c', d' | q⟩ h
  · obtain rfl := barCell_inj (congrArg Prod.fst h)
    obtain rfl : d = d' := congrArg (fun x : GSem nD τ sig × ℕ × Fin 8 => x.2.2) h
    rfl
  · exact (bar_ne_x (congrArg Prod.fst h)).elim
  · exact (bar_ne_x (congrArg Prod.fst h).symm).elim
  · obtain ⟨rfl, rfl⟩ := xCell_inj (congrArg Prod.fst h); rfl

/-- All the signals of the protocol. -/
def allToks : Finset (GSem nD τ sig × ℕ × Fin 8) := Finset.univ.map ⟨tokOf, tokOf_injective⟩

/-- The bookkeeping at launch. -/
def u₀ : UU :=
  (initOf (Pipeline.cells cfgs cellOf_inj) (Pipeline.launchToks cfgs cellOf_inj), initOf allCells allToks)

/-- The tokens of device `c`'s own semaphores. -/
def toks (c : Dev nD) : sProp 𝕄 :=
  iprop((bigSep Finset.univ fun d : Fin 8 => dutyTok ER (barCell c) 0 d)
    ∗ bigSep Finset.univ fun x : X => iprop(dutyTok ER (xCell c (x, false)) 0 0 ∗ dutyTok ER (xCell c (x, true)) 0 0))

/-- What is dealt to device `c` at launch. -/
def G (c : Dev nD) : sProp 𝕄 :=
  iprop((bigSep Finset.univ fun k => roundState ER (sched m ρ) (kcell (c, k)) 0)
    ∗ (bigSep Finset.univ fun k => iprop(atPos ER (kcell (c, k)) 0 ∅ 0 ∗ reached ER (kcell (c, k)) 0)) ∗ toks c)

/-- What device `c` starts with, the semaphores' invariants being set up. -/
def G' (c : Dev nD) : sProp 𝕄 := iprop(∃ K, records m ρ K ∗ hand c)

/-- The bookkeeping at launch is dealt out among the devices. -/
theorem deal : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact BI.bigSep_congr fun c _ => by unfold toks; rw [bigSep_univ_sum, copies_eq]; rfl
  iintro HX
  imod (Rounds.fund ER (sched m ρ) allCells allToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The call's own semaphores at zero are, for each copy, its two semaphores at zero. -/
theorem ownSems0_eq (c : Dev nD) : (Pipeline.ownSems0 (Ix := Unit) (Name := ℕ) (U := UU) (Lvl := ℕ) (Val := Elt F) (τ := τ) osem c : sProp 𝕄)
    = bigSep Finset.univ fun x : X => iprop(semVal (xCell c (x, false)) 0 ∗ semVal (xCell c (x, true)) 0) := by
  unfold Pipeline.ownSems0; rw [copies_eq]
/-- The only other semaphore of a device is its barrier semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- Together they are the semaphores the protocol names, all at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k => semVal (kcell (c, k)) 0 : sProp 𝕄) := by
  rw [ownSems0_eq, unscopedSems0_eq, cells_eq]
  exact sep_comm.1

/-- One device's part of the global step: its semaphores at zero become invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  have hinv : iprop((bigSep Finset.univ fun k => semVal (kcell (c, k)) 0) ∗ bigSep Finset.univ fun k => roundState ER (sched m ρ) (kcell (c, k)) 0)
      ⊢ (|={Set.univ}=> bigSep Finset.univ fun k => iprop(∃ κ : ℕ, cellInv ER (sched m ρ) κ (kcell (c, k))) : sProp 𝕄) := by
    rw [← bigSep_sep']
    exact (BI.bigSep_mono fun k _ => (Rounds.body_intro ER (sched m ρ) (kcell (c, k))).trans inv_alloc).trans (bigSep_fupd _ _)
  unfold G
  iintro ⟨Hos, Hus, Hst, Hat, Htok⟩
  ihave Hv := (sems0_eq (F := F) c) $$ [Hos Hus]
  · isplitl [Hos] <;> iassumption
  imod hinv $$ [Hv Hst] with Hinv
  · isplitl [Hv] <;> iassumption
  imodintro
  isplitl [Hinv]; · iexact Hinv
  isplitl [Hat]; · iexact Hat
  iexact Htok

/-- Something kept for good may be used on each member of a family over a finite set. -/
theorem with_rec {I : Type} [DecidableEq I] {S : Finset I} {P : sProp 𝕄} [BI.Persistent P] {Φ Ψ : I → sProp 𝕄}
    (h : ∀ i ∈ S, iprop(P ∗ Φ i) ⊢ Ψ i) : iprop(P ∗ bigSep S Φ) ⊢ bigSep S Ψ :=
  (sep_mono_left (BI.bigSep_of_persistent S P)).trans (by rw [← bigSep_sep']; exact BI.bigSep_mono h)

/-- The devices as the targets of copy `x`. -/
def hop (x : X) : Dev nD ≃ Dev nD := ⟨fun c => peer c x, fun c => from' c x, fun c => from_peer c x, fun c => peer_from c x⟩

/-- The signal of a device to itself is dropped. -/
theorem drop_self (c p : Dev nD) : (dutyTok ER (barCell p) 0 (c : Fin 8) : sProp 𝕄) ⊢ if p = c then iprop(emp) else dutyTok ER (barCell p) 0 (c : Fin 8) := by
  split
  · exact gone _
  · exact Entails.of_eq rfl

/-- The signals of a copy that is not made are dropped. -/
theorem drop_unused (c : Dev nD) (x : X) : iprop(dutyTok ER (xCell c (x, false)) 0 0 ∗ dutyTok ER (xCell (peer c x) (x, true)) 0 0)
    ⊢ (if used x = true then iprop(dutyTok ER (xCell c (x, false)) 0 0 ∗ dutyTok ER (xCell (peer c x) (x, true)) 0 0) else iprop(emp) : sProp 𝕄) := by
  split
  · exact Entails.of_eq rfl
  · exact gone _

/-- The tokens dealt to the devices that pay them. -/
theorem toks_around : (bigSep Finset.univ fun c : Dev nD => (toks c : sProp 𝕄))
    ⊢ bigSep Finset.univ fun c : Dev nD => iprop((bigSep Finset.univ fun p : Dev nD => if p = c then iprop(emp) else dutyTok ER (barCell p) 0 (c : Fin 8))
      ∗ (bigSep Finset.univ fun x : X => if used x = true then iprop(dutyTok ER (xCell c (x, false)) 0 0 ∗ dutyTok ER (xCell (peer c x) (x, true)) 0 0) else iprop(emp))) := by
  have h : (bigSep Finset.univ fun c : Dev nD => (toks c : sProp 𝕄))
      = bigSep Finset.univ fun c : Dev nD => iprop((bigSep Finset.univ fun p : Dev nD => (dutyTok ER (barCell p) 0 (c : Fin 8) : sProp 𝕄))
        ∗ (bigSep Finset.univ fun x : X => iprop(dutyTok ER (xCell c (x, false)) 0 0 ∗ dutyTok ER (xCell (peer c x) (x, true)) 0 0))) := by
    unfold toks
    rw [bigSep_sep', bigSep_sep', BI.bigSep_univ_comm (fun (c : Dev nD) (d : Fin 8) => (dutyTok ER (barCell c) 0 d : sProp 𝕄))]
    refine congrArg (fun P => iprop(_ ∗ P)) ?_
    rw [BI.bigSep_univ_comm, BI.bigSep_univ_comm (fun (c : Dev nD) (x : X) => (iprop(dutyTok ER (xCell c (x, false)) 0 0 ∗ dutyTok ER (xCell (peer c x) (x, true)) 0 0) : sProp 𝕄))]
    refine BI.bigSep_congr fun x _ => ?_
    rw [bigSep_sep', bigSep_sep', bigSep_univ_equiv (hop x) (fun c : Dev nD => (dutyTok ER (xCell c (x, true)) 0 0 : sProp 𝕄))]
    rfl
  rw [h]
  exact BI.bigSep_mono fun c _ => sep_mono (BI.bigSep_mono fun p _ => drop_self c p) (BI.bigSep_mono fun x _ => drop_unused c x)

/-- What all devices were dealt is passed round so that each has the signals it is to send. -/
theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  have hlin : iprop((bigSep Finset.univ fun c : Dev nD => bigSep Finset.univ fun k => (atPos ER (kcell (c, k)) 0 ∅ 0 : sProp 𝕄)) ∗ bigSep Finset.univ fun c : Dev nD => (toks c : sProp 𝕄))
      ⊢ bigSep Finset.univ fun c : Dev nD => (hand c : sProp 𝕄) := by
    refine (sep_mono_right toks_around).trans ?_
    rw [← bigSep_sep']
    exact mono fun c => Entails.of_eq (by unfold hand; rw [cells_eq])
  rw [bigSep_sep', bigSep_sep', ← bigSep_univ_prod (fun ck : Dev nD × Option (X × Bool) => iprop(∃ κ : ℕ, cellInv ER (sched m ρ) κ (kcell ck))),
    BI.bigSep_congr (s := Finset.univ) (fun (c : Dev nD) _ => bigSep_sep' Finset.univ (fun k : Option (X × Bool) => (atPos ER (kcell (c, k)) 0 ∅ 0 : sProp 𝕄)) (fun k => reached ER (kcell (c, k)) 0)),
    bigSep_sep', ← bigSep_univ_prod (fun ck : Dev nD × Option (X × Bool) => (reached ER (kcell ck) 0 : sProp 𝕄))]
  have hghost : ∀ K, iprop(records m ρ K ∗ bigSep Finset.univ fun c : Dev nD => (hand c : sProp 𝕄)) ⊢ bigSep Finset.univ (G' m ρ) := fun K =>
    with_rec fun c _ => by unfold G'; iintro H; iexists K; iexact H
  iintro ⟨HI, ⟨Hat, #HR⟩, Htok⟩
  ihave HK := (BI.bigSep_exists_pi Finset.univ (fun (ck : Dev nD × Option (X × Bool)) (κ : ℕ) => (cellInv ER (sched m ρ) κ (kcell ck) : sProp 𝕄))) $$ HI
  icases HK with ⟨%K, #HI⟩
  ihave Hl := hlin $$ [Hat Htok]
  · isplitl [Hat] <;> iassumption
  iapply (hghost K)
  isplitr
  · unfold records; isplitl; · iexact HI
    iexact HR
  · iexact Hl

/-- The global step, all devices at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((BI.bigSep_mono fun c _ => core_alloc m ρ c).trans (bigSep_fupd _ _)).trans (BI.fupd_mono (regroup m ρ))

/-! ### What is owed at the start -/

/-- At the start no copy has been started. -/
theorem start_idle (x : X) : start.out x = .idle := rfl

/-- What is owed to the barriers, read at one semaphore. -/
theorem tell_at (f : Dev nD → Bool) (g : GSem nD τ sig) : tell f g () = ∑ p : Dev nD, if f p = false ∧ g = barCell p then 1 else 0 := by
  unfold tell
  rw [Finset.sum_apply, Finsupp.finsetSum_apply]
  refine Finset.sum_congr rfl fun p _ => ?_
  cases h : f p
  · rw [if_neg Bool.false_ne_true, tallyAt_apply]
    by_cases hg : g = barCell p
    · rw [if_pos ⟨hg, rfl⟩, if_pos ⟨rfl, hg⟩]
    · rw [if_neg fun q => hg q.1, if_neg fun q => hg q.2]
  · rw [if_pos rfl, if_neg fun q => by cases q.1]; rfl

/-- What is owed for the copies, read at one semaphore. -/
theorem debt_at (d : Dev nD) (g : GSem nD τ sig) : debt d start.out g () = ∑ x : X, if used x = true ∧ g = xCell (peer d x) (x, true) then amtX x else 0 := by
  unfold debt
  rw [Finset.sum_apply, Finsupp.finsetSum_apply]
  refine Finset.sum_congr rfl fun x _ => ?_
  by_cases hu : used x = true
  · rw [if_pos ⟨hu, start_idle x⟩]; unfold owesX; rw [tallyAt_apply]
    by_cases hg : g = xCell (peer d x) (x, true)
    · rw [if_pos ⟨hg, rfl⟩, if_pos ⟨hu, hg⟩]
    · rw [if_neg fun q => hg q.1, if_neg fun q => hg q.2]
  · rw [if_neg fun q => hu q.1, if_neg fun q => hu q.1]; rfl

/-- What a device owes at launch is what it owes to the barriers and for the copies. -/
theorem owed_at (d : Dev nD) (g : GSem nD τ sig) : O₀ d g () = tell (told d 0) g () + debt d start.out g () := by
  unfold O₀; rw [Pi.add_apply, Finsupp.add_apply]

/-- At launch each device owes one signal to every other device's barrier. -/
theorem owed_bar (d c : Dev nD) : O₀ d (barCell c) () = if d = c then 0 else 1 := by
  rw [owed_at, tell_at, debt_at, Finset.sum_eq_zero (s := (Finset.univ : Finset X)) fun x _ => if_neg fun q => bar_ne_x q.2, Nat.add_zero,
    Finset.sum_eq_single c (fun p _ hp => if_neg fun q => hp (barCell_inj q.2).symm) fun h => (h (Finset.mem_univ _)).elim, told_zero]
  by_cases h : d = c
  · rw [if_pos h, if_neg fun q => by rw [decide_eq_true h.symm] at q; cases q.1]
  · rw [if_neg h, if_pos ⟨decide_eq_false fun q => h q.symm, rfl⟩]

/-- At launch a receive semaphore is owed its copy's credit by the one device that sends the copy. -/
theorem owed_x (d c : Dev nD) (x : X) (hu : used x = true) : O₀ d (xCell c (x, true)) () = if d = from' c x then amtX x else 0 := by
  rw [owed_at, tell_at, debt_at, Finset.sum_eq_zero (s := (Finset.univ : Finset (Dev nD))) fun x _ => if_neg fun q => bar_ne_x q.2.symm, Nat.zero_add,
    Finset.sum_eq_single x (fun y _ hy => if_neg fun q => hy (congrArg Prod.fst (xCell_inj q.2).2).symm) fun h => (h (Finset.mem_univ _)).elim]
  by_cases h : d = from' c x
  · rw [if_pos h, if_pos ⟨hu, by rw [h, peer_from]⟩]
  · rw [if_neg h, if_neg fun q => h (by rw [(xCell_inj q.2).1, from_peer])]

/-- A barrier semaphore is owed seven signals in all. -/
theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

/-- A receive semaphore is owed its copy's credit in all. -/
theorem launch_x (c : Dev nD) (x : X) (hu : used x = true) :
    tallyOn (xCell c (x, true)) (launchCredit (Pipeline.owing O₀) 0 (xCell c (x, true))) = (tallyAt (xCell c (x, true)) () (amtX x) : CellTallies nD τ sig Unit) := by
  unfold tallyAt; refine congrArg _ (Finsupp.ext fun u => ?_); cases u
  rw [Pipeline.launchCredit_owing, Finsupp.single_eq_same, Finset.sum_congr rfl fun d _ => owed_x d c x hu, Finset.sum_ite_eq' Finset.univ (from' c x) fun _ => amtX x,
    if_pos (Finset.mem_univ _)]

/-- Different copies have different receive semaphores. -/
theorem recv_inj : Function.Injective fun x : X => osem (x, true) := fun x y h => congrArg Prod.fst (osem_inj h)

/-- The credit for a receive semaphore is the copy's, or nothing if the copy is not made. -/
theorem owed_one (c : Dev nD) (x : X) : (cred (tallyOn (xCell c (x, true)) (launchCredit (Pipeline.owing O₀) 0 (xCell c (x, true)))) : sProp 𝕄)
    ⊢ if used x = true then cred (tallyAt (xCell c (x, true)) () (amtX x)) else iprop(emp) := by
  split
  · rename_i hu; rw [← launch_x c x hu]
  · exact gone _

/-- The credit a device gets at launch is what its waits will use. -/
theorem creds (c : Dev nD) : (Pipeline.launchCred O₀ c : sProp 𝕄) ⊢ dues c := by
  unfold Pipeline.launchCred dues
  rw [bigSep_univ_at _ (SemLoc.reg barS), launch_bar]
  refine sep_mono_right ?_
  have hs : Finset.univ.map ⟨fun x : X => osem (x, true), recv_inj⟩ ⊆ Finset.univ.erase (SemLoc.reg barS : SemLoc sig) := fun s hs => by
    obtain ⟨x, -, hx⟩ := Finset.mem_map.mp hs
    exact Finset.mem_erase.mpr ⟨(fun h => by rw [h] at hx; cases hx), Finset.mem_univ _⟩
  refine (BI.bigSep_subset hs).trans ?_
  rw [bigSep_map]
  exact mono fun x => owed_one c x

/-! ### The theorem's side conditions -/

/-- The router's weights, which the program does not read. -/
def aside (c : Dev nD) : sProp 𝕄 := ((c : Thread nD τ).loc main_arg1) ↦{fullShare} m ((c : Thread nD τ).loc main_arg1)

/-- What the launch gives a device is what the call starts with and what is put aside. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(entry m ρ c ∗ aside m c) := by
  rw [Pipeline.unscopedRestP_none, unscopedRest0_eq]
  iintro ⟨Ha, Hlev, Hcr, -, HG⟩
  ihave Hc := (creds (F := F) c) $$ Hcr
  imodintro
  unfold entry G' aside
  isplitr [Ha]
  · isplitl [HG]; · iexact HG
    isplitl [Hc] <;> iassumption
  · iexact Ha

/-- With the call's own buffers it is what the body keeps before it runs. -/
theorem phi0_intro (c : Dev nD) :
    iprop(entry m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

/-- What the body keeps after it has run gives back the semaphores and the call's own buffers. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  exact Entails.of_eq rfl

/-- What is owed at launch is owed to semaphores of tensor cores above level zero. -/
theorem O₀_level {c : Dev nD} {g : GSem nD τ sig} {u : Unit} (h : 0 < O₀ c g u) : g.1.2 = .tc ∧ 0 < lv g u := by
  cases u
  rw [owed_at] at h
  rcases Nat.eq_zero_or_pos (debt c start.out g ()) with h0 | h0
  · rw [h0, Nat.add_zero, tell_at] at h
    obtain ⟨p, -, hp⟩ := Finset.exists_ne_zero_of_sum_ne_zero (Nat.pos_iff_ne_zero.mp h)
    by_cases hq : told c 0 p = false ∧ g = barCell p
    · rw [hq.2]; exact ⟨rfl, Nat.one_pos⟩
    · exact (hp (if_neg hq)).elim
  · obtain ⟨y, -, -, rfl⟩ := debt_pos h0
    exact ⟨rfl, by rw [lv_recv]; exact (lev_pos y).trans' Nat.one_pos⟩

/-- A device may wait on a semaphore of the staging at any time. -/
theorem mayWait_stage (c : Dev nD) (q : DmaSem sig) (hq : dec q.val = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by unfold L; rw [if_pos (O₀_level hg).1]; exact Finset.mem_singleton_self _)
      (fun p hp => by rw [Finset.mem_singleton.mp hp]; dsimp only [lv]; rw [hq])
      (fun g u hg => (O₀_level hg).2)
  · rw [MayWait_zero]; iintro -; iempintro

/-- All waits of the staging are allowed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (dec_stage w s) _ (by
      rcases t with ⟨_ | _, ht⟩
      · exact Or.inl rfl
      · exact Or.inr rfl)

/-! ### The run -/

/-- What an array of the call holds at the end. -/
def finalA (c : Dev nD) (w : Fin cfg0.W) : Buf (Elt F) ((cfg0.win w).arr.view.loc (c : Thread nD τ)) := (dats m ρ 0 c).arrAt w cfg0.N

/-- Each device's arrays end as computed, and the array the kernel does not read is unchanged. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

set_option maxRecDepth 100000 in
/-- Every execution of the program from any memory with zero counters ends; at the end every window's array is as computed, the
    router's weights are as they were, and every semaphore counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (deal m ρ) $$ HX with HG
      imodintro
      isplitl [HP] <;> iassumption)
    (hglob := glob m ρ)
    (hA := fun _ _ => rfl) (hpf := fun _ k => k.elim0)
    (X := entry m ρ) (Y := fun c => unscopedSems0 c) (Z := aside m)
    (hX := start_intro m ρ) (hin := phi0_intro m ρ) (hout := phi1_exit m ρ)
    (QY := fun c s => s.mem ((c : Thread nD τ).loc main_arg1) = m ((c : Thread nD τ).loc main_arg1)
      ∧ ∀ sm : SemLoc sig, sm.isScoped .tc = false → s.sem ((c.tc : Thread nD τ), sm) = 0)
    (hY := fun c s' => by
      unfold aside
      iintro ⟨Hu, Hz, HSI⟩
      icombine HSI Hz gives %h0
      imod (Pipeline.unscopedSems0_read (X := unscopedSems0 c) (c := c) fupd_intro s') $$ [Hu HSI] with ⟨%h1, HSI⟩
      · isplitl [Hu] <;> iassumption
      imodintro
      isplitr; · ipureintro; exact ⟨Buf.eq_of_forall_mem_univ h0, h1⟩
      iexact HSI)
    (hQ := fun _ h hs => ⟨fun c => ⟨(h c).1, (h c).2.2.1⟩, sem_eq_zero hs fun c => (h c).2.2.2⟩)

/-- The arrays read after the run hold what they held. -/
theorem finalA_in (c : Dev nD) (w : Fin cfg0.W) (h : (cfg0.win w).isOut = false) : finalA m ρ c w = (s₀ m ρ).mem ((cfg0.win w).arr.view.loc (c : Thread nD τ)) :=
  (dats (F := F) m ρ 0 c).arrAt_in w h _

end Cert.KernelIdealProof

end
-- ==== Proof.Frames.lean ====
/-
The frame claims: each program runs to its end, leaves its arguments as they were and every semaphore counter at zero.
-/
module

public import proofs.«01_k».proof.Defs
public import proofs.«01_k».proof.Proof.KernelRun
public import proofs.«01_k».proof.Proof.KernelIdealRun
public import proofs.«01_k».proof.Proof.Gen.ReferenceIdeal.Run

@[expose] public section

noncomputable section

namespace Cert.Frames

open Idealize.ShloMosaic Idealize.SL.Sem

/-- The kernel's frame: the windows' arrays that are read end as they began, and so do the router's weights. -/
theorem kernel : Cert.quiescent_Kernel := fun m ρ _ =>
  (θ_run Cert.Kernel.defs _ _).mono (fun _ h => ⟨fun c =>
      ⟨((h.1 c).1 (0 : Fin 4)).trans (Cert.KernelProof.finalA_in m ρ c (0 : Fin 4) rfl), (h.1 c).2,
        ((h.1 c).1 (1 : Fin 4)).trans (Cert.KernelProof.finalA_in m ρ c (1 : Fin 4) rfl),
        ((h.1 c).1 (2 : Fin 4)).trans (Cert.KernelProof.finalA_in m ρ c (2 : Fin 4) rfl)⟩, h.2⟩)
    (Cert.KernelProof.run_main (F := Bits) m ρ)

/-- The same of the kernel over the extended reals. -/
theorem kernelIdeal : Cert.quiescent_KernelIdeal := fun m ρ _ =>
  (θ_run Cert.KernelIdeal.defs _ _).mono (fun _ h => ⟨fun c =>
      ⟨((h.1 c).1 (0 : Fin 4)).trans (Cert.KernelIdealProof.finalA_in m ρ c (0 : Fin 4) rfl), (h.1 c).2,
        ((h.1 c).1 (1 : Fin 4)).trans (Cert.KernelIdealProof.finalA_in m ρ c (1 : Fin 4) rfl),
        ((h.1 c).1 (2 : Fin 4)).trans (Cert.KernelIdealProof.finalA_in m ρ c (2 : Fin 4) rfl)⟩, h.2⟩)
    (Cert.KernelIdealProof.run_main (F := Ideal) m ρ)

/-- The reference's frame; it has no semaphore. -/
theorem referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Frames

end
-- ==== Proof.Counts.lean ====
/-
Counting tokens: how many earlier tokens chose the same expert, over all tokens and cut into the devices' blocks.
-/
module

public import proofs.«01_k».proof.Proof.Tables
public import Mathlib.Algebra.BigOperators.Fin
public import Mathlib.Data.EReal.Operations
public import Mathlib.Data.BitVec

@[expose] public section

namespace Cert.Counts

/-- One if token `j` chose expert `e`, else zero. -/
def hit {N : ℕ} (f : Fin N → BitVec 32) (j : Fin N) (e : Fin 32) : ℕ := if f j = BitVec.ofNat 32 e.val then 1 else 0
/-- How many tokens before token `n` chose expert `e`. -/
def before {N : ℕ} (f : Fin N → BitVec 32) (n : Fin N) (e : Fin 32) : ℕ := ∑ j : Fin N, if j < n then hit f j e else 0
/-- How many tokens chose expert `e`. -/
def total {N : ℕ} (f : Fin N → BitVec 32) (e : Fin 32) : ℕ := ∑ j : Fin N, hit f j e
/-- How many tokens before token `n` chose the expert that token `n` chose. -/
def rank {N : ℕ} (f : Fin N → BitVec 32) (n : Fin N) : ℕ := ∑ e : Fin 32, before f n e * hit f n e

/-- Row `n` of block `c` in the whole array. -/
def row (c : Fin 8) (n : Fin 512) : Fin 4096 := ⟨c.val * 512 + n.val, by omega⟩
/-- Expert `k` of device `d` among all experts. -/
def expert (d : Fin 8) (k : Fin 4) : Fin 32 := ⟨d.val * 4 + k.val, by omega⟩

/-- A sum over all rows is the sum over the blocks of the sums over their rows. -/
theorem sum_row {M : Type} [AddCommMonoid M] (g : Fin 4096 → M) : ∑ j, g j = ∑ d : Fin 8, ∑ n : Fin 512, g (row d n) := by
  rw [← Fintype.sum_prod_type' (fun d n => g (row d n))]
  refine (Fintype.sum_equiv (finProdFinEquiv (m := 8) (n := 512)) _ _ fun p => ?_).symm
  refine congrArg g (Fin.ext ?_)
  show p.1.val * 512 + p.2.val = p.2.val + 512 * p.1.val
  omega

/-- A sum over all experts is the sum over the devices of the sums over their experts. -/
theorem sum_expert {M : Type} [AddCommMonoid M] (g : Fin 32 → M) : ∑ j, g j = ∑ d : Fin 8, ∑ k : Fin 4, g (expert d k) := by
  rw [← Fintype.sum_prod_type' (fun d k => g (expert d k))]
  refine (Fintype.sum_equiv (finProdFinEquiv (m := 8) (n := 4)) _ _ fun p => ?_).symm
  refine congrArg g (Fin.ext ?_)
  show p.1.val * 4 + p.2.val = p.2.val + 4 * p.1.val
  omega

/-- The tokens before row `n` of block `c`: those before it in the block, and all tokens of the blocks before. -/
theorem before_row (f : Fin 4096 → BitVec 32) (c : Fin 8) (n : Fin 512) (e : Fin 32) :
    before f (row c n) e = before (fun j => f (row c j)) n e + ∑ d : Fin 8, if d < c then total (fun j => f (row d j)) e else 0 := by
  have h : ∀ d : Fin 8, (∑ j : Fin 512, if row d j < row c n then hit f (row d j) e else 0)
      = (if d = c then before (fun j => f (row c j)) n e else 0) + if d < c then total (fun j => f (row d j)) e else 0 := by
    intro d
    rcases lt_trichotomy d c with h | h | h
    · rw [if_neg h.ne, if_pos h, zero_add]
      refine Finset.sum_congr rfl fun j _ => ?_
      have : row d j < row c n := by show d.val * 512 + j.val < c.val * 512 + n.val; have : d.val < c.val := h; omega
      rw [if_pos this]; rfl
    · subst h
      rw [if_pos rfl, if_neg (lt_irrefl _), add_zero]
      refine Finset.sum_congr rfl fun j _ => ?_
      have : row d j < row d n ↔ j < n := by show d.val * 512 + j.val < d.val * 512 + n.val ↔ j.val < n.val; omega
      simp only [this]; rfl
    · rw [if_neg h.ne', if_neg h.not_gt, zero_add]
      refine Finset.sum_eq_zero fun j _ => if_neg ?_
      show ¬ d.val * 512 + j.val < c.val * 512 + n.val
      have : c.val < d.val := h
      omega
  unfold before
  rw [sum_row]
  simp only [h]
  rw [Finset.sum_add_distrib, Finset.sum_ite_eq' Finset.univ c, if_pos (Finset.mem_univ _)]
  rfl

/-- The rank of row `n` of block `c`: its rank in the block, and the tokens of the blocks before that chose its expert. -/
theorem rank_row (f : Fin 4096 → BitVec 32) (c : Fin 8) (n : Fin 512) :
    rank f (row c n) = rank (fun j => f (row c j)) n
      + ∑ e : Fin 32, hit (fun j => f (row c j)) n e * ∑ d : Fin 8, total (fun j => f (row d j)) e * (if d < c then 1 else 0) := by
  unfold rank
  rw [← Finset.sum_add_distrib]
  refine Finset.sum_congr rfl fun e _ => ?_
  rw [before_row, add_mul]
  refine congrArg _ ?_
  rw [mul_comm]
  refine congrArg _ (Finset.sum_congr rfl fun d _ => ?_)
  split <;> simp

/-- A token chooses an expert at most once. -/
theorem hit_le {N : ℕ} (f : Fin N → BitVec 32) (j : Fin N) (e : Fin 32) : hit f j e ≤ 1 := by unfold hit; split <;> omega

/-- A rank is smaller than a word can hold, read with its sign. -/
theorem rank_lt (f : Fin 4096 → BitVec 32) (n : Fin 4096) : rank f n < 2 ^ 31 := by
  have hb : ∀ e, before f n e ≤ 4096 := fun e =>
    (Finset.sum_le_sum (g := fun _ => 1) fun j _ => by split; exacts [hit_le f j e, Nat.zero_le _]).trans (by simp)
  have : rank f n ≤ ∑ _e : Fin 32, 4096 := Finset.sum_le_sum fun e _ => by
    calc before f n e * hit f n e ≤ 4096 * 1 := Nat.mul_le_mul (hb e) (hit_le f n e)
      _ = 4096 := rfl
  simp at this
  omega

/-- The tokens up to and with token `n`. -/
theorem upto {N : ℕ} (f : Fin N → BitVec 32) (n : Fin N) (e : Fin 32) :
    (∑ j : Fin N, if j ≤ n then hit f j e else 0) = before f n e + hit f n e := by
  have h : ∀ j : Fin N, (if j ≤ n then hit f j e else 0) = (if j < n then hit f j e else 0) + if j = n then hit f j e else 0 := by
    intro j
    rcases lt_trichotomy j n with h | h | h
    · rw [if_pos h.le, if_pos h, if_neg h.ne, add_zero]
    · subst h; simp
    · rw [if_neg h.not_ge, if_neg h.not_gt, if_neg h.ne']
  simp only [h]
  rw [Finset.sum_add_distrib, Finset.sum_ite_eq' Finset.univ n, if_pos (Finset.mem_univ _)]
  rfl

/-! ### Words and extended reals that hold these numbers -/

/-- A small number is read back from its word. -/
theorem toInt_small {a : ℕ} (h : a < 2 ^ 31) : (BitVec.ofNat 32 a).toInt = a := by
  rw [BitVec.toInt_eq_toNat_of_lt (by rw [BitVec.toNat_ofNat]; omega), BitVec.toNat_ofNat, Nat.mod_eq_of_lt (by omega)]

/-- Small numbers compare as signed words the way they do as numbers. -/
theorem slt_small {a b : ℕ} (ha : a < 2 ^ 31) (hb : b < 2 ^ 31) : (BitVec.ofNat 32 a).slt (BitVec.ofNat 32 b) = decide (a < b) := by
  rw [BitVec.slt, toInt_small ha, toInt_small hb]
  simp

/-- The word of a sum is the sum of the words. -/
theorem ofNat_sum {ι : Type} (s : Finset ι) (g : ι → ℕ) : BitVec.ofNat 32 (∑ i ∈ s, g i) = ∑ i ∈ s, BitVec.ofNat 32 (g i) := by
  classical
  induction s using Finset.induction_on with
  | empty => rfl
  | insert a s ha ih => rw [Finset.sum_insert ha, Finset.sum_insert ha, BitVec.ofNat_add, ih]

/-- A sum of naturals, as an extended real, is the sum of the extended reals. -/
theorem coe_sum {ι : Type} (s : Finset ι) (g : ι → ℕ) : ((∑ i ∈ s, g i : ℕ) : EReal) = ∑ i ∈ s, (g i : EReal) := Nat.cast_sum s g

end Cert.Counts

end
-- ==== Proof.KernelIdealValue.lean ====
/-
The result block of a device, read element by element.
-/
module

public import proofs.«01_k».proof.Proof.KernelIdealBody
public import proofs.«01_k».proof.Proof.Counts
public import Idealize.ShloMosaic.Lib.Pointwise

@[expose] public section

set_option maxRecDepth 16384

noncomputable section

namespace Cert.KernelIdealProof

open Cert.KernelIdeal Cert.KernelIdeal.Gen Cert.Tables Cert.Counts
open Idealize.ShloMosaic
open Idealize.ShloMosaic.TcCoe

/-- The product of the tokens routed to expert `w` and accepted with that expert's matrix. -/
def term (v9 : IVec S512x1 32) (v344 : IVec S512x1 1) (v347 : FVec Ideal S512x256 .bf16) (w : BitVec 32) (g : Vec Ideal S1x1x256x512 .bf16) : FVec Ideal S512x512 .f32 :=
  matmul dot_S512x256_S256x512_S512x512_1_0_0_1_n_n none
    (mulf v347 (broadcastTo S512x256 (truncf .bf16 (sitofp .f32 (extui 32 (andi (cmpi .eq v9 (broadcast S512x1 w)) v344) natLt_1_32)) bitsLt_bf16_f32) broadcasts_S512x1_S512x256))
    (shapeCast S256x512 g shapeCasts_S1x1x256x512_S256x512 : FVec Ideal S256x512 .bf16) (constant S512x512 .f32 0x00000000#32)

/-- The four terms of the experts of one device, added to the result block. -/
def slot (v9 : IVec S512x1 32) (v344 : IVec S512x1 1) (v347 : FVec Ideal S512x256 .bf16) (w : BitVec 32) (g0 g1 g2 g3 : Vec Ideal S1x1x256x512 .bf16) (o : FVec Ideal S512x512 .f32) : FVec Ideal S512x512 .f32 :=
  addf (shapeCast S512x512 o shapeCasts_S512x512_S512x512)
    (addf (addf (addf (term v9 v344 v347 (Scalar.addi (Scalar.muli w 4#32) 0#32) g0) (term v9 v344 v347 (Scalar.addi (Scalar.muli w 4#32) 1#32) g1))
      (term v9 v344 v347 (Scalar.addi (Scalar.muli w 4#32) 2#32) g2)) (term v9 v344 v347 (Scalar.addi (Scalar.muli w 4#32) 3#32) g3))

variable (m : (ℓ : Loc nD τ sig) → Buf (Elt Ideal) ℓ) (ρ : Dev nD → PrngReg) (c : Dev nD)

/-- Step 0 of the output is the common step on the weights of slot 0. -/
theorem out0_eq (o) : out0 m ρ c o = slot (vE m ρ c) (vA m ρ c) (vX m ρ c) (wup (myW c) 0#32) (ck m ρ c 0) (ck m ρ c 1) (ck m ρ c 2) (ck m ρ c 3) o := rfl
/-- Step 1 of the output is the common step on the weights of slot 1. -/
theorem out1_eq (o) : out1 m ρ c o = slot (vE m ρ c) (vA m ρ c) (vX m ρ c) (wup (myW c) 1#32) (ck m ρ c 4) (ck m ρ c 5) (ck m ρ c 6) (ck m ρ c 7) o := rfl
/-- Step 5 of the output is the common step on the weights of slot 5. -/
theorem out5_eq (o) : out5 m ρ c o = slot (vE m ρ c) (vA m ρ c) (vX m ρ c) (wdn (myW c) 1#32) (ck m ρ c 20) (ck m ρ c 21) (ck m ρ c 22) (ck m ρ c 23) o := rfl
/-- Step 2 of the output is the common step on the weights of slot 2. -/
theorem out2_eq (o) : out2 m ρ c o = slot (vE m ρ c) (vA m ρ c) (vX m ρ c) (wup (myW c) 2#32) (ck m ρ c 8) (ck m ρ c 9) (ck m ρ c 10) (ck m ρ c 11) o := rfl
/-- Step 6 of the output is the common step on the weights of slot 6. -/
theorem out6_eq (o) : out6 m ρ c o = slot (vE m ρ c) (vA m ρ c) (vX m ρ c) (wdn (myW c) 2#32) (ck m ρ c 24) (ck m ρ c 25) (ck m ρ c 26) (ck m ρ c 27) o := rfl
/-- Step 3 of the output is the common step on the weights of slot 3. -/
theorem out3_eq (o) : out3 m ρ c o = slot (vE m ρ c) (vA m ρ c) (vX m ρ c) (wup (myW c) 3#32) (ck m ρ c 12) (ck m ρ c 13) (ck m ρ c 14) (ck m ρ c 15) o := rfl
/-- Step 7 of the output is the common step on the weights of slot 7. -/
theorem out7_eq (o) : out7 m ρ c o = slot (vE m ρ c) (vA m ρ c) (vX m ρ c) (wdn (myW c) 3#32) (ck m ρ c 28) (ck m ρ c 29) (ck m ρ c 30) (ck m ρ c 31) o := rfl
/-- Step 4 of the output is the common step on the weights of slot 4. -/
theorem out4_eq (o) : out4 m ρ c o = slot (vE m ρ c) (vA m ρ c) (vX m ρ c) (wup (myW c) 4#32) (ck m ρ c 16) (ck m ρ c 17) (ck m ρ c 18) (ck m ρ c 19) o := rfl

/-- A bit as a number. -/
theorem bit_value (b : BitVec 1) : FloatOps.sitofp (F := Ideal) .f32 (BitVec.setWidth 32 b) = if b = 1#1 then (1 : EReal) else 0 := by
  have h : b = 0#1 ∨ b = 1#1 := by revert b; decide
  show (((BitVec.setWidth 32 b).toInt : ℝ) : EReal) = _
  rcases h with rfl | rfl
  · simp
  · simp

/-- The equality bit is set exactly if the words are equal. -/
theorem eq_bit {n : ℕ} (a b : BitVec n) : IntOp.cmpi .eq a b = 1#1 ↔ a = b := by
  have h : IntOp.cmpi .eq a b = BitVec.ofBool (decide (a = b)) := rfl
  rw [h]
  by_cases e : a = b <;> simp [e]

/-- The conjunction of two bits is set exactly if both are. -/
theorem and_bit (a b : BitVec 1) : IntOp.andi a b = 1#1 ↔ a = 1#1 ∧ b = 1#1 := by revert a b; decide

/-- Small numbers compare as words the way they do as numbers. -/
theorem lt_bit {a b : ℕ} (ha : a < 2 ^ 31) (hb : b < 2 ^ 31) : IntOp.cmpi .slt (BitVec.ofNat 32 a) (BitVec.ofNat 32 b) = 1#1 ↔ a < b := by
  show BitVec.ofBool ((BitVec.ofNat 32 a).slt (BitVec.ofNat 32 b)) = 1#1 ↔ a < b
  rw [slt_small ha hb]
  by_cases h : a < b <;> simp [h]

/-- Small numbers compare as words the way they do as numbers, the other way round. -/
theorem gt_bit {a b : ℕ} (ha : a < 2 ^ 31) (hb : b < 2 ^ 31) : IntOp.cmpi .sgt (BitVec.ofNat 32 a) (BitVec.ofNat 32 b) = 1#1 ↔ b < a := by
  show BitVec.ofBool ((BitVec.ofNat 32 b).slt (BitVec.ofNat 32 a)) = 1#1 ↔ b < a
  rw [slt_small hb ha]
  by_cases h : b < a <;> simp [h]

/-- A term at an element: the token's row against the expert's column if the token is routed there and accepted, else zero. -/
theorem term_apply (v9 : IVec S512x1 32) (v344 : IVec S512x1 1) (v347 : FVec Ideal S512x256 .bf16) (w : BitVec 32) (g : Vec Ideal S1x1x256x512 .bf16) (n h : Fin 512) :
    term v9 v344 v347 w g (ix2 n h) = if v9 (ix2 n 0) = w ∧ v344 (ix2 n 0) = 1#1 then (∑ k : Fin 256, v347 (ix2 n k) * g (ix4 0 0 k h) : EReal) else 0 := by
  pointwise [term]
  simp only [bit_value, and_bit, eq_bit]
  split
  · exact Finset.sum_congr rfl fun k _ => by rw [mul_one]
  · exact Finset.sum_eq_zero fun k _ => by rw [mul_zero, zero_mul]

/-- At each index one slot adds the terms of its four experts. -/
theorem slot_apply (v9 : IVec S512x1 32) (v344 : IVec S512x1 1) (v347 : FVec Ideal S512x256 .bf16) (w : BitVec 32) (g0 g1 g2 g3 : Vec Ideal S1x1x256x512 .bf16) (o : FVec Ideal S512x512 .f32) (n h : Fin 512) :
    slot v9 v344 v347 w g0 g1 g2 g3 o (ix2 n h) = (o (ix2 n h) + (term v9 v344 v347 (Scalar.addi (Scalar.muli w 4#32) 0#32) g0 (ix2 n h) + term v9 v344 v347 (Scalar.addi (Scalar.muli w 4#32) 1#32) g1 (ix2 n h)
      + term v9 v344 v347 (Scalar.addi (Scalar.muli w 4#32) 2#32) g2 (ix2 n h) + term v9 v344 v347 (Scalar.addi (Scalar.muli w 4#32) 3#32) g3 (ix2 n h)) : EReal) := by
  pointwise [slot]

/-- The choices of a block of tokens. -/
def pick (v : Vec Ideal S512x1 .i32) : Fin 512 → BitVec 32 := fun n => v (ix2 n 0)

/-- The expert number read for token `n` is the one given. -/
theorem pay1_apply (v : Vec Ideal S512x1 .i32) (n : Fin 512) : k0_pay1 v (ix2 n 0) = pick v n := by
  pointwise [k0_pay1, pick]

/-- The mask entry is one if token `n` chose expert `e`, else zero. -/
theorem pay2_apply (v : Vec Ideal S512x1 .i32) (n : Fin 512) (e : Fin 32) : k0_pay2 v (ix2 n e) = ((hit (pick v) n e : ℕ) : EReal) := by
  pointwise [k0_pay2, k0_pay1]
  rw [bit_value]
  unfold hit pick
  simp only [eq_bit]
  split <;> simp

/-- The histogram row counts the tokens that chose each expert. -/
theorem pay3_apply (v : Vec Ideal S512x1 .i32) (e : Fin 32) : k0_pay3 v (ix3 0 0 e) = ((total (pick v) e : ℕ) : EReal) := by
  pointwise [k0_pay3]
  unfold total
  rw [coe_sum]
  exact Finset.sum_congr rfl fun j _ => pay2_apply v j e

/-- The local rank of token `n` counts the earlier tokens of its device that chose the same expert. -/
theorem pay5_apply (v : Vec Ideal S512x1 .i32) (n : Fin 512) : k0_pay5 (k0_pay2 v) (ix2 n 0) = ((rank (pick v) n : ℕ) : EReal) := by
  pointwise [k0_pay5]
  unfold rank before
  rw [coe_sum]
  refine Finset.sum_congr rfl fun e _ => ?_
  rw [EReal.natCast_mul, coe_sum, pay2_apply]
  refine congrArg (· * _) (Finset.sum_congr rfl fun j _ => ?_)
  rw [bit_value, pay2_apply]
  simp only [gt_bit (show n.val < 2 ^ 31 by omega) (show j.val < 2 ^ 31 by omega)]
  show (if j.val < n.val then (1 : EReal) else 0) * _ = ((if j.val < n.val then _ else 0 : ℕ) : EReal)
  split <;> simp

/-- The number of tokens accepted per expert. -/
theorem cap_value : Ideal.ofBits .f32 0x42CC0000#32 = ((102 : ℕ) : EReal) := by
  rw [show ((102 : ℕ) : EReal) = ((102 : ℝ) : EReal) by norm_cast]
  simp [Ideal.ofBits, Ideal.ieee, -EReal.coe_mul]; norm_num

/-- One for the devices before `c`, zero for the others. -/
theorem wmask_apply (c d : Fin 8) : FloatOps.sitofp (F := Ideal) .f32 (BitVec.setWidth 32 (IntOp.cmpi .slt (BitVec.ofNat 32 d.val) (BitVec.ofNat 32 c.val))) = ((if d < c then 1 else 0 : ℕ) : EReal) := by
  have hd : d.val < 2 ^ 31 := by omega
  have hc : c.val < 2 ^ 31 := by omega
  rw [bit_value]
  by_cases h : d < c
  · rw [if_pos ((lt_bit hd hc).2 h), if_pos h, Nat.cast_one]
  · rw [if_neg (fun q => h ((lt_bit hd hc).1 q)), if_neg h, Nat.cast_zero]

/-- The sum of the histograms' rows of the devices before `c`, at a token's expert. -/
theorem offs_apply (f : Fin 4096 → BitVec 32) (c : Fin 8) (v : Vec Ideal S512x1 .i32) (H : Vec Ideal S8x1x32 .f32)
    (hH : ∀ d e, H (ix3 d 0 e) = ((total (fun j => f (row d j)) e : ℕ) : EReal)) (n : Fin 512) :
    (∑ e : Fin 32, k0_pay2 v (ix2 n e) * ∑ d : Fin 8, H (ix3 d 0 e) * FloatOps.sitofp (F := Ideal) .f32 (BitVec.setWidth 32 (IntOp.cmpi .slt (BitVec.ofNat 32 d.val) (BitVec.ofNat 32 c.val))) : EReal)
      = ((∑ e : Fin 32, hit (pick v) n e * ∑ d : Fin 8, total (fun j => f (row d j)) e * (if d < c then 1 else 0) : ℕ) : EReal) := by
  simp only [wmask_apply, hH, pay2_apply, ← EReal.natCast_mul, ← coe_sum]

/-- The acceptance bit of token `n` is set exactly if its local rank `x` and its count `y` on earlier devices add up to less than the bound. -/
theorem accept_read (v2 : BitVec 32) (v14 : FVec Ideal S512x32 .f32) (v228 : FVec Ideal S512x1 .f32) (H : Vec Ideal S8x1x32 .f32) (n : Fin 512) (x y : EReal)
    (hx : v228 (ix2 n 0) = x) (hy : (∑ e : Fin 32, v14 (ix2 n e) * ∑ d : Fin 8, H (ix3 d 0 e) * FloatOps.sitofp (F := Ideal) .f32 (BitVec.setWidth 32 (IntOp.cmpi .slt (BitVec.ofNat 32 d.val) v2)) : EReal) = y) :
    k0_pay6 v2 v14 v228 H (ix2 n 0) = BitVec.ofBool (decide (x + y < Ideal.ofBits .f32 0x42CC0000#32)) := by
  pointwise [k0_pay6]
  rw [hx, hy]

/-- A token is accepted when the tokens before it, in its block and in the blocks before, are fewer than the number accepted per expert. -/
theorem pay6_apply (f : Fin 4096 → BitVec 32) (c : Fin 8) (v : Vec Ideal S512x1 .i32) (H : Vec Ideal S8x1x32 .f32) (hv : pick v = fun n => f (row c n))
    (hH : ∀ d e, H (ix3 d 0 e) = ((total (fun j => f (row d j)) e : ℕ) : EReal)) (n : Fin 512) :
    k0_pay6 (BitVec.ofNat 32 c.val) (k0_pay2 v) (k0_pay5 (k0_pay2 v)) H (ix2 n 0) = 1#1 ↔ rank f (row c n) < 102 := by
  rw [accept_read _ _ _ _ _ _ _ (pay5_apply v n) (offs_apply f c v H hH n), cap_value, ← Nat.cast_add, hv, ← rank_row]
  have e : (((rank f (row c n) : ℕ) : EReal) < ((102 : ℕ) : EReal)) ↔ rank f (row c n) < 102 := EReal.natCast_lt_iff
  simp only [e]
  by_cases h : rank f (row c n) < 102
  · simp only [h, decide_true]; decide
  · simp only [h, decide_false]; decide

end Cert.KernelIdealProof

end
-- ==== Proof.KernelIdealBlock.lean ====
/-
The result block of a device, from what the devices' arguments hold.
-/
module

public import proofs.«01_k».proof.Proof.KernelIdealValue
public import proofs.«01_k».proof.Proof.KernelIdealRun

@[expose] public section

set_option maxRecDepth 16384

noncomputable section

namespace Cert.KernelIdealProof

open Cert.KernelIdeal Cert.KernelIdeal.Gen Cert.Tables Cert.Counts
open Idealize.ShloMosaic
open Idealize.ShloMosaic.TcCoe

variable (m : (ℓ : Loc nD τ sig) → Buf (Elt Ideal) ℓ) (ρ : Dev nD → PrngReg) (c : Dev nD)

/-- The windows hold the whole arguments. -/
theorem xstg_eq : xstg m ρ c = m ((c : Thread nD τ).loc main_arg0) := by
  have hz : (fun a => (win0_0.index (0 : Fin 1)) a * main_arg0.ty.shape.size a) = fun _ => 0 := funext fun a => by fin_cases a <;> decide
  exact Memref.read_access_unit_zero (Elt Ideal) main_arg0 hz (fun a => by fin_cases a <;> decide) _
/-- The staged block of expert numbers is the device's array. -/
theorem istg_eq : istg m ρ c = m ((c : Thread nD τ).loc main_arg2) := by
  have hz : (fun a => (win0_1.index (0 : Fin 1)) a * main_arg2.ty.shape.size a) = fun _ => 0 := funext fun a => by fin_cases a <;> decide
  exact Memref.read_access_unit_zero (Elt Ideal) main_arg2 hz (fun a => by fin_cases a <;> decide) _
/-- The staged block of experts is the device's array. -/
theorem estg_eq : estg m ρ c = m ((c : Thread nD τ).loc main_arg3) := by
  have hz : (fun a => (win0_2.index (0 : Fin 1)) a * main_arg3.ty.shape.size a) = fun _ => 0 := funext fun a => by fin_cases a <;> decide
  exact Memref.read_access_unit_zero (Elt Ideal) main_arg3 hz (fun a => by fin_cases a <;> decide) _

/-- The result array ends as the body left the result block. -/
theorem finalA_out : finalA m ρ c (3 : Fin 4) = outAt m ρ c := by
  have hz : (fun a => (win0_3.index (0 : Fin 1)) a * main_v1.ty.shape.size a) = fun _ => 0 := funext fun a => by fin_cases a <;> decide
  have hr := fun f => Memref.read_access_unit_zero (Elt Ideal) main_v1 hz (fun a => by fin_cases a <;> decide) f
  have h : (win0_3.blk (0 : Fin 1)).view.read (Elt Ideal) (finalA m ρ c (3 : Fin 4)) = outAt m ρ c := by
    unfold finalA
    rw [show cfg0.N = ((0 : Fin 1) : Fin cfg0.N).val + 1 from rfl, (dats m ρ 0 c).arrAt_succ (3 : Fin 4) (0 : Fin 1)]
    rw [show (cfg0.win (3 : Fin 4)).flush (0 : Fin 1) = true from by decide, if_pos rfl]
    exact View.read_write_univ _ _
  exact (hr _).symm.trans h

/-- An element of a chunk: the expert's matrix, as its device brought it. -/
theorem ck_apply (s : Fin 8) (k : Fin 4) (a : Fin 256) (h : Fin 512) (g : Fin 32) (hg : g.val = s.val * 4 + k.val) :
    ck m ρ c g (ix4 0 0 a h) = estg m ρ (slotDev c s) (ix3 k a h) := by
  have e : ck m ρ c g (ix4 0 0 a h) = WB m ρ c (ix4 s k a h) := by
    refine congrArg (WB m ρ c) (funext fun b => Fin.ext ?_)
    fin_cases b
    · show g.val / 4 + 1 * 0 = s.val; omega
    · show g.val % 4 + 1 * 0 = k.val; omega
    · show 0 + 1 * a.val = a.val; omega
    · show 0 + 1 * h.val = h.val; omega
  rw [e]
  show k0_pay4 (estg m ρ (slotDev c s)) (inSlot (ix4 s k a h)) = _
  have e2 : inSlot (ix4 s k a h) = ix4 0 k a h := by funext b; fin_cases b <;> rfl
  rw [e2]
  pointwise [k0_pay4]

/-- Row `d` of the histogram buffer counts the tokens of device `d` that chose each expert. -/
theorem HB_apply (d : Fin 8) (e : Fin 32) : HB m ρ (ix3 d 0 e) = ((total (pick (istg m ρ d)) e : ℕ) : EReal) := by
  show k0_pay3 (istg m ρ d) (inRow (ix3 d 0 e)) = _
  have e2 : inRow (ix3 d 0 e) = ix3 0 0 e := by funext b; fin_cases b <;> rfl
  rw [e2, pay3_apply]

/-- The device's number as a word. -/
theorem myW_eq : myW c = BitVec.ofNat 32 c.val := by revert c; decide
/-- The word of an expert of the device whose experts slot `s` holds. -/
theorem word_up (s : Fin 8) (k : Fin 4) (hs : s.val ≤ 4) : Scalar.addi (Scalar.muli (wup (myW c) (BitVec.ofNat 32 s.val)) 4#32) (BitVec.ofNat 32 k.val) = BitVec.ofNat 32 (expert (slotDev c s) k).val := by
  revert c s k; decide
/-- The word of an expert in a slot filled from the left ring is the expert's number. -/
theorem word_dn (s : Fin 8) (k : Fin 4) (hs : 5 ≤ s.val) : Scalar.addi (Scalar.muli (wdn (myW c) (BitVec.ofNat 32 (s.val - 4))) 4#32) (BitVec.ofNat 32 k.val) = BitVec.ofNat 32 (expert (slotDev c s) k).val := by
  revert c s k; decide

/-- The slots of a device hold each device's experts once. -/
theorem slotDev_bij : Function.Bijective (slotDev c) := by
  have : Function.Injective (slotDev c) := by revert c; decide
  exact Finite.injective_iff_bijective.mp this

/-- What expert `e` contributes to row `n` and column `h` of the whole result. -/
def part (f : Fin 4096 → BitVec 32) (X : Fin 4096 → Fin 256 → EReal) (W : Fin 32 → Fin 256 → Fin 512 → EReal) (n : Fin 4096) (h : Fin 512) (e : Fin 32) : EReal :=
  if f n = BitVec.ofNat 32 e.val ∧ rank f n < 102 then ∑ k : Fin 256, X n k * W e k h else 0

section
variable {f : Fin 4096 → BitVec 32} {X : Fin 4096 → Fin 256 → EReal} {W : Fin 32 → Fin 256 → Fin 512 → EReal}
variable (hI : ∀ d : Fin 8, pick (istg m ρ d) = fun n => f (row d n)) (hX : ∀ n k, xstg m ρ c (ix2 n k) = X (row c n) k)
variable (hW : ∀ (d : Fin 8) k a h, estg m ρ d (ix3 k a h) = W (expert d k) a h)

include hI in
/-- A token is accepted when its rank among all tokens is below the number accepted per expert. -/
theorem vA_apply (n : Fin 512) : vA m ρ c (ix2 n 0) = 1#1 ↔ rank f (row c n) < 102 := by
  unfold vA
  rw [myW_eq]
  exact pay6_apply f c (istg m ρ c) (HB m ρ) (hI c) (fun d e => by rw [HB_apply, hI d]) n

/-- The tokens the products take are the given ones. -/
theorem vX_apply (n : Fin 512) (k : Fin 256) : vX m ρ c (ix2 n k) = xstg m ρ c (ix2 n k) := by
  pointwise [k0_pay7]

include hI hX hW in
/-- A term of a slot is its expert's contribution. -/
theorem term_part (s : Fin 8) (k : Fin 4) (g : Fin 32) (hg : g.val = s.val * 4 + k.val) (w : BitVec 32) (hw : w = BitVec.ofNat 32 (expert (slotDev c s) k).val) (n h : Fin 512) :
    term (vE m ρ c) (vA m ρ c) (vX m ρ c) w (ck m ρ c g) (ix2 n h) = part f X W (row c n) h (expert (slotDev c s) k) := by
  rw [term_apply, hw, show vE m ρ c (ix2 n 0) = f (row c n) from (pay1_apply _ n).trans (congrFun (hI c) n)]
  simp only [vA_apply m ρ c hI]
  unfold part
  refine if_congr Iff.rfl (Finset.sum_congr rfl fun a _ => ?_) rfl
  rw [vX_apply, hX, ck_apply m ρ c s k a h g hg, hW]

include hI hX hW in
/-- A slot adds the contributions of its device's experts. -/
theorem slot_part (s : Fin 8) (g : Fin 4 → Fin 32) (hg : ∀ k, (g k).val = s.val * 4 + k.val) (w : BitVec 32)
    (hw : ∀ k : Fin 4, Scalar.addi (Scalar.muli w 4#32) (BitVec.ofNat 32 k.val) = BitVec.ofNat 32 (expert (slotDev c s) k).val) (o : FVec Ideal S512x512 .f32) (n h : Fin 512) :
    slot (vE m ρ c) (vA m ρ c) (vX m ρ c) w (ck m ρ c (g 0)) (ck m ρ c (g 1)) (ck m ρ c (g 2)) (ck m ρ c (g 3)) o (ix2 n h)
      = (o (ix2 n h) + ∑ k : Fin 4, part f X W (row c n) h (expert (slotDev c s) k) : EReal) := by
  have t : ∀ (k : Fin 4) (v : BitVec 32), v = BitVec.ofNat 32 k.val → term (vE m ρ c) (vA m ρ c) (vX m ρ c) (Scalar.addi (Scalar.muli w 4#32) v) (ck m ρ c (g k)) (ix2 n h)
      = part f X W (row c n) h (expert (slotDev c s) k) := by
    rintro k _ rfl
    exact term_part m ρ c hI hX hW s k (g k) (hg k) _ (hw k) n h
  rw [slot_apply, Fin.sum_univ_four, t 0 0#32 rfl, t 1 1#32 rfl, t 2 2#32 rfl, t 3 3#32 rfl]

/-- The output block starts at zero. -/
theorem pay8_apply (n h : Fin 512) : k0_pay8 (F := Ideal) (ix2 n h) = (0 : EReal) := by
  pointwise [k0_pay8]

/-- The four chunks of slot `s`. -/
def chunks (s : Fin 8) (k : Fin 4) : Fin 32 := ⟨s.val * 4 + k.val, by omega⟩

include hI hX hW in
/-- The result block of device `c`: every expert's contribution, added up. -/
theorem outAt_apply (n h : Fin 512) : outAt m ρ c (ix2 n h) = (∑ e : Fin 32, part f X W (row c n) h e : EReal) := by
  have hu : ∀ (s : Fin 8) (hs : s.val ≤ 4) (o : FVec Ideal S512x512 .f32), _ := fun s hs o => slot_part m ρ c hI hX hW s (chunks s) (fun _ => rfl) _ (fun k => word_up c s k hs) o n h
  have hd : ∀ (s : Fin 8) (hs : 5 ≤ s.val) (o : FVec Ideal S512x512 .f32), _ := fun s hs o => slot_part m ρ c hI hX hW s (chunks s) (fun _ => rfl) _ (fun k => word_dn c s k hs) o n h
  rw [sum_expert, ← (slotDev_bij c).sum_comp (fun d => ∑ k : Fin 4, part f X W (row c n) h (expert d k)), Fin.sum_univ_eight]
  unfold outAt
  refine (congrFun (out4_eq m ρ c _) _).trans ((hu 4 (by decide) _).trans ?_)
  rw [(congrFun (out7_eq m ρ c _) _).trans (hd 7 (by decide) _), (congrFun (out3_eq m ρ c _) _).trans (hu 3 (by decide) _),
    (congrFun (out6_eq m ρ c _) _).trans (hd 6 (by decide) _), (congrFun (out2_eq m ρ c _) _).trans (hu 2 (by decide) _),
    (congrFun (out5_eq m ρ c _) _).trans (hd 5 (by decide) _), (congrFun (out1_eq m ρ c _) _).trans (hu 1 (by decide) _),
    (congrFun (out0_eq m ρ c _) _).trans (hu 0 (by decide) _), pay8_apply, zero_add]
  ac_rfl
end

end Cert.KernelIdealProof

end
-- ==== Proof.ReferenceValue.lean ====
/-
The reference's result, read element by element.
-/
module

public import proofs.«01_k».proof.Proof.Counts
public import proofs.«01_k».proof.Proof.Gen.ReferenceIdeal.Run
public import Idealize.ShloMosaic.Lib.Pointwise
public import Idealize.ShloMosaic.Lib.Pointwise.IndexBridge
public import Idealize.ShloMosaic.Lib.Routing.OpsOne

@[expose] public section

set_option maxRecDepth 16384

noncomputable section

namespace Cert.ReferenceIdealProof

open Cert.ReferenceIdeal Cert.ReferenceIdeal.Gen Cert.Counts
open Idealize.ShloMosaic
open Idealize.ShloMosaic.TcCoe

/-- The tokens' choices. -/
def pick (I : IVec S4096x1 32) : Fin 4096 → BitVec 32 := fun n => I (ix2 n 0)

/-- The result both programs compute: every token's row against the column of the expert it chose, zero for the tokens that came too late. -/
def routed (X : FVec Ideal S4096x256 .f32) (I : IVec S4096x1 32) (W : FVec Ideal S32x256x512 .f32) (n : Fin 4096) (h : Fin 512) : EReal :=
  ∑ e : Fin 32, if pick I n = BitVec.ofNat 32 e.val ∧ rank (pick I) n < 102 then ∑ k : Fin 256, X (ix2 n k) * W (ix3 e k h) else 0

/-- The table of the choices: one where the token chose the expert, else zero. -/
def chosen (I : IVec S4096x1 32) : IVec S4096x32 32 :=
  extui 32 (cmpi .eq (broadcastInDim S4096x32 ![0, 1] bcast_S4096x1_S4096x32_0_1 I) (broadcastInDim S4096x32 ![0, 1] bcast_S1x32_S4096x32_0_1 (broadcastInDim S1x32 ![1] bcast_S32_S1x32_1 (iotaInDim S32 32 0)))) natLt_1_32

/-- The running sums of the table's columns. -/
def running (I : IVec S4096x1 32) : IVec S4096x32 32 :=
  Host.reduceWindow IntOp.addi ![4096, 1] ![1, 1] ![4095, 0] ![0, 0] (chosen I) (broadcastInDim S_ ![] bcast_S_S_ (constantI S_ 32 0#32)) reduceWindows_S4096x32_S4096x32_w4096s1p4095_0_w1s1p0_0 h_S_

/-- The tokens' ranks. -/
def ranks (I : IVec S4096x1 32) : IVec S4096 32 :=
  Host.reduce IntOp.addi (muli (subi (running I) (chosen I)) (chosen I)) (constantI S_ 32 0#32) reducesTo_S4096x32_S4096_d1 h_S_

/-- The result of the reference's operations. -/
def res (X : FVec Ideal S4096x256 .f32) (I : IVec S4096x1 32) (W : FVec Ideal S32x256x512 .f32) : FVec Ideal S4096x512 .f32 :=
  Host.reduceAdd (select (broadcastInDim S4096x32x512 ![0, 1, 2] bcast_S4096x32x1_S4096x32x512_0_1_2 (broadcastInDim S4096x32x1 ![0, 1] bcast_S4096x32_S4096x32x1_0_1
      (andi (cmpi .eq (chosen I) (broadcastInDim S4096x32 ![] bcast_S_S4096x32 (constantI S_ 32 1#32)))
        (broadcastInDim S4096x32 ![0, 1] bcast_S4096x1_S4096x32_0_1 (cmpi .slt (broadcastInDim S4096x1 ![0] bcast_S4096_S4096x1_0 (ranks I)) (broadcastInDim S4096x1 ![] bcast_S_S4096x1 (constantI S_ 32 102#32)))))))
      (Host.dotGeneral dot_S4096x256_S32x256x512_S4096x32x512_1_1_0_02_n_n none X W)
      (broadcastInDim S4096x32x512 ![] bcast_S_S4096x32x512 (id (constant S_ .f32 0x00000000#32))))
    (constant S_ .f32 0x00000000#32) reducesTo_S4096x32x512_S4096x512_d1 h_S_

/-- The equality bit is set exactly if the words are equal. -/
theorem eq_bit {n : ℕ} (a b : BitVec n) : IntOp.cmpi .eq a b = 1#1 ↔ a = b := by
  have h : IntOp.cmpi .eq a b = BitVec.ofBool (decide (a = b)) := rfl
  rw [h]
  by_cases e : a = b <;> simp [e]

/-- The conjunction of two bits is set exactly if both are. -/
theorem and_bit (a b : BitVec 1) : IntOp.andi a b = 1#1 ↔ a = 1#1 ∧ b = 1#1 := by revert a b; decide

/-- The mask entry of the reference is one if token `n` chose expert `e`, else zero. -/
theorem chosen_apply (I : IVec S4096x1 32) (n : Fin 4096) (e : Fin 32) : chosen I (ix2 n e) = BitVec.ofNat 32 (hit (pick I) n e) := by
  pointwise [chosen]
  unfold hit pick
  have h : ∀ b : BitVec 1, BitVec.setWidth 32 b = BitVec.ofNat 32 (if b = 1#1 then 1 else 0) := by decide
  rw [h]
  simp only [eq_bit]

/-- The running count of the reference: the tokens up to and including `n` that chose expert `e`. -/
theorem running_apply (I : IVec S4096x1 32) (n : Fin 4096) (e : Fin 32) : running I (ix2 n e) = BitVec.ofNat 32 (before (pick I) n e + hit (pick I) n e) := by
  rw [← upto, ofNat_sum]
  unfold running
  rw [ix2_eq_valueIdx]
  refine (Routing.cumsum_rows_sum (A := 4096) (Am1 := 4095) (N := 32) rfl (chosen I) _ ?_ _ _ n e).trans ?_
  · rfl
  · refine Finset.sum_congr rfl fun j _ => ?_
    rw [← ix2_eq_valueIdx, chosen_apply]
    split <;> rfl

/-- The rank of token `n` in the reference counts the earlier tokens that chose the same expert. -/
theorem ranks_apply (I : IVec S4096x1 32) (n : Fin 4096) : ranks I (ix1 n) = BitVec.ofNat 32 (rank (pick I) n) := by
  pointwise [ranks, Host.reduce_eq_fold]
  unfold rank
  rw [ofNat_sum, Finset.sum_eq_fold]
  refine Finset.fold_congr fun e _ => ?_
  rw [running_apply, chosen_apply, BitVec.ofNat_add, BitVec.ofNat_mul]
  show (_ + _ - _) * _ = _
  rw [add_sub_cancel_right]

/-- The result of the reference at an index is the routed sum. -/
theorem res_apply (X : FVec Ideal S4096x256 .f32) (I : IVec S4096x1 32) (W : FVec Ideal S32x256x512 .f32) (n : Fin 4096) (h : Fin 512) :
    res X I W (ix2 n h) = routed X I W n h := by
  pointwise [res]
  unfold routed
  refine Finset.sum_congr rfl fun e _ => ?_
  rw [chosen_apply, ranks_apply]
  have hr : IntOp.cmpi .slt (BitVec.ofNat 32 (rank (pick I) n)) 102#32 = 1#1 ↔ rank (pick I) n < 102 := by
    show BitVec.ofBool ((BitVec.ofNat 32 (rank (pick I) n)).slt (BitVec.ofNat 32 102)) = 1#1 ↔ _
    rw [slt_small (rank_lt _ _) (by decide)]
    by_cases h : rank (pick I) n < 102 <;> simp [h]
  have hc : (BitVec.ofNat 32 (hit (pick I) n e) = 1#32) ↔ pick I n = BitVec.ofNat 32 e.val := by
    unfold hit
    split
    · next q => exact ⟨fun _ => q, fun _ => rfl⟩
    · next q => exact ⟨fun x => absurd x (by decide), fun x => absurd x q⟩
  have hb : IntOp.andi (IntOp.cmpi .eq (BitVec.ofNat 32 (hit (pick I) n e)) 1#32) (IntOp.cmpi .slt (BitVec.ofNat 32 (rank (pick I) n)) 102#32) = 1#1
      ↔ pick I n = BitVec.ofNat 32 e.val ∧ rank (pick I) n < 102 := by rw [and_bit, eq_bit, hc, hr]
  have hz : (constant (F := Ideal) S_ .f32 0x00000000#32) ix0 = (0 : EReal) := Ideal.ofBits_zero_f32
  show (if _ = 1#1 then _ else constant (F := Ideal) S_ .f32 0x00000000#32 ix0) = _
  rw [hz]
  exact if_congr hb rfl rfl

open Idealize.SL.Sem in
/-- The reference runs from any memory and ends, on every device, with that result. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20) = res (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.ReferenceIdeal.Value.run (F := Ideal) m ρ

end Cert.ReferenceIdealProof

end
-- ==== Proof.Algebraic.lean ====
/-
The kernel's blocks are the blocks of the reference's result.
-/
module

public import proofs.«01_k».proof.Defs
public import proofs.«01_k».proof.Proof.KernelIdealBlock
public import proofs.«01_k».proof.Proof.ReferenceValue

@[expose] public section

set_option maxRecDepth 16384

noncomputable section

namespace Cert.Algebraic

open Cert.Counts Cert.Tables
open Idealize.ShloMosaic
open Idealize.ShloMosaic.TcCoe
open Idealize.SL.Sem
open Cert.ReferenceIdealProof (res routed)

section
open Cert.KernelIdeal

variable (m : (ℓ : Loc nD τ sig) → Buf (Elt Ideal) ℓ) (ρ : Dev nD → PrngReg)
variable (X : (⟨2, ![4096, 256]⟩ : Shape).Idx → EReal) (I : (⟨2, ![4096, 1]⟩ : Shape).Idx → BitVec 32) (W : (⟨3, ![32, 256, 512]⟩ : Shape).Idx → EReal)

/-- Where the devices hold the blocks of the whole arguments, a device ends with its block of the reference's result. -/
theorem block_result
    (hX : ∀ c : Dev nD, m ((c : Thread nD τ).loc main_arg0) = Layout.block ⟨2, ![512, 256]⟩ ⟨2, ![4096, 256]⟩ 0 8 c X)
    (hI : ∀ c : Dev nD, m ((c : Thread nD τ).loc main_arg2) = Layout.block ⟨2, ![512, 1]⟩ ⟨2, ![4096, 1]⟩ 0 8 c I)
    (hW : ∀ c : Dev nD, m ((c : Thread nD τ).loc main_arg3) = Layout.block ⟨3, ![4, 256, 512]⟩ ⟨3, ![32, 256, 512]⟩ 0 8 c W)
    (c : Dev nD) :
    Cert.KernelIdealProof.outAt m ρ c = Layout.block ⟨2, ![512, 512]⟩ ⟨2, ![4096, 512]⟩ 0 8 c (res X I W) := by
  funext j
  obtain ⟨n, h, rfl⟩ : ∃ (n : Fin 512) (h : Fin 512), j = ix2 n h := ⟨j 0, j 1, eq_ix2 j⟩
  refine (Cert.KernelIdealProof.outAt_apply m ρ c (f := Cert.ReferenceIdealProof.pick I) (X := fun n k => X (ix2 n k)) (W := fun e k h => W (ix3 e k h)) ?_ ?_ ?_ n h).trans ?_
  · intro d
    funext j
    show Cert.KernelIdealProof.istg m ρ d (ix2 j 0) = I (ix2 (row d j) 0)
    rw [Cert.KernelIdealProof.istg_eq, hI d]
    refine congrArg I (funext fun a => Fin.ext ?_)
    fin_cases a <;> rfl
  · intro j k
    rw [Cert.KernelIdealProof.xstg_eq, hX c]
    refine congrArg X (funext fun a => Fin.ext ?_)
    fin_cases a <;> rfl
  · intro d k a b
    rw [Cert.KernelIdealProof.estg_eq, hW d]
    refine congrArg W (funext fun a => Fin.ext ?_)
    fin_cases a <;> rfl
  · refine Eq.trans ?_ (congrArg (res X I W) (show ix2 (row c n) h = _ from funext fun a => Fin.ext (by fin_cases a <;> rfl)))
    exact (Cert.ReferenceIdealProof.res_apply X I W (row c n) h).symm
end

/-- The value claim: from blocks of the same arguments, device `c` ends with block `c` of the reference's result. -/
theorem algebraic : Cert.algebraic_KernelIdeal_ReferenceIdeal := by
  intro m g m' g' _ hagree
  refine ⟨res (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · exact (θ_run Cert.KernelIdeal.defs _ _).mono (fun _ h c =>
      ⟨((h.1 c).1 (3 : Fin 4)).trans ((Cert.KernelIdealProof.finalA_out m g c).trans
          (block_result m g _ _ _ (fun d => (hagree d).1) (fun d => (hagree d).2.2.1) (fun d => (hagree d).2.2.2) c)),
        ((h.1 c).1 (0 : Fin 4)).trans (Cert.KernelIdealProof.finalA_in m g c (0 : Fin 4) rfl), (h.1 c).2,
        ((h.1 c).1 (1 : Fin 4)).trans (Cert.KernelIdealProof.finalA_in m g c (1 : Fin 4) rfl),
        ((h.1 c).1 (2 : Fin 4)).trans (Cert.KernelIdealProof.finalA_in m g c (2 : Fin 4) rfl)⟩)
      (Cert.KernelIdealProof.run_main (F := Ideal) m g)
  · exact (θ_run Cert.ReferenceIdeal.defs _ _).mono (fun _ h => h 0) (Cert.ReferenceIdealProof.run m' g')

end Cert.Algebraic

end
-- ==== Proof.lean ====
/-
The claims, put together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Frames.kernel, Cert.Frames.kernelIdeal, Cert.Frames.referenceIdeal, trivial, Cert.Algebraic.algebraic⟩

end Cert.Proof

end
